-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_gates [hPre_gates : Cert.Pre_gates.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_gates.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_gates [hPre_gates : Cert.Pre_gates.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_gates.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_weights [hPre_finite_weights : Cert.Pre_finite_weights.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_weights [hPre_finite_weights : Cert.Pre_finite_weights.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_gates [hKernel5Ideal : Cert.Kernel5Ideal.Facts] [hPre_gates : Cert.Pre_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_gates m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_gates [hReference5Ideal : Cert.Reference5Ideal.Facts] [hPre_gates : Cert.Pre_gates.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_gates m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_weights [hKernel6Ideal : Cert.Kernel6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_weights m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_weights [hReference6Ideal : Cert.Reference6Ideal.Facts] [hPre_finite_weights : Cert.Pre_finite_weights.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_weights m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "mask" .f32 0xFEFFFFFF#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "gelu_cubic" .f32 0x3D122279#32 ((80338380498831 / 2251799813685248 : ℝ) : EReal)

def algebraic_Kernel5Ideal_Reference5Ideal_pre_gates [hKernel5Ideal : Cert.Kernel5Ideal.Facts] [hReference5Ideal : Cert.Reference5Ideal.Facts] [hPre_gates : Cert.Pre_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_gates m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v91) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite_weights [hKernel6Ideal : Cert.Kernel6Ideal.Facts] [hReference6Ideal : Cert.Reference6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_weights m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tame : Cert.Pre_tame.Facts) (hPre_gates : Cert.Pre_gates.Facts) (hPre_finite_weights : Cert.Pre_finite_weights.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_gates (hKernel5Ideal := hKernel5Ideal) (hPre_gates := hPre_gates)
    ∧ quiescent_Reference5Ideal (hReference5Ideal := hReference5Ideal)
    ∧ quiescent_Reference5Ideal_pre_gates (hReference5Ideal := hReference5Ideal) (hPre_gates := hPre_gates)
    ∧ quiescent_Kernel6 (hKernel6 := hKernel6)
    ∧ quiescent_Kernel6Ideal (hKernel6Ideal := hKernel6Ideal)
    ∧ quiescent_Kernel6Ideal_pre_finite_weights (hKernel6Ideal := hKernel6Ideal) (hPre_finite_weights := hPre_finite_weights)
    ∧ quiescent_Reference6Ideal (hReference6Ideal := hReference6Ideal)
    ∧ quiescent_Reference6Ideal_pre_finite_weights (hReference6Ideal := hReference6Ideal) (hPre_finite_weights := hPre_finite_weights)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_gates (hKernel5Ideal := hKernel5Ideal) (hReference5Ideal := hReference5Ideal) (hPre_gates := hPre_gates)
    ∧ preserves_Kernel6_Kernel6Ideal
    ∧ algebraic_Kernel6Ideal_Reference6Ideal_pre_finite_weights (hKernel6Ideal := hKernel6Ideal) (hReference6Ideal := hReference6Ideal) (hPre_finite_weights := hPre_finite_weights)
-- ==== Pre_finite_weights.lean ====
abbrev S8192x2048 : Shape := ⟨2, ![8192, 2048]⟩
abbrev S2x2048 : Shape := ⟨2, ![2, 2048]⟩
abbrev S1x2048x12320 : Shape := ⟨3, ![1, 2048, 12320]⟩
abbrev S1x2048 : Shape := ⟨2, ![1, 2048]⟩
abbrev S2048 : Shape := ⟨1, ![2048]⟩
abbrev S_ : Shape := ⟨0, ![]⟩
abbrev S1x2048x1 : Shape := ⟨3, ![1, 2048, 1]⟩

class Facts : Prop where
  slices_S2x2048_S1x2048_0_0 : S2x2048.Slices ![0, 0] S1x2048
  shapeCasts_S1x2048_S2048 : S1x2048.ShapeCasts S2048
  bcast_S_S2048 : S_.BroadcastsInDim S2048 (![] : Fin 0 → Fin S2048.rank)
  bcast_S2048_S1x2048x1_1 : S2048.BroadcastsInDim S1x2048x1 (![1] : Fin 1 → Fin S1x2048x1.rank)
  bcast_S_S1x2048x12320 : S_.BroadcastsInDim S1x2048x12320 (![] : Fin 0 → Fin S1x2048x12320.rank)
  bcast_S1x2048x1_S1x2048x12320_0_1_2 : S1x2048x1.BroadcastsInDim S1x2048x12320 (![0, 1, 2] : Fin 3 → Fin S1x2048x12320.rank)

variable [Facts]

def fn {F : FTy → Type} [FloatOps F] (main_arg0 : FVec F S8192x2048 .f32) (main_arg1 : FVec F S2x2048 .f32) (main_arg2 : FVec F S1x2048x12320 .f32) : IVec S1x2048x12320 1 :=
  let main_v0 : IVec S1x2048x12320 32 := iotaInDim S1x2048x12320 32 2
  let main_v1 : FVec F S1x2048 .f32 := (extractStridedSlice S1x2048 ![0, 0] · slices_S2x2048_S1x2048_0_0) main_arg1
  let main_v2 : FVec F S2048 .f32 := shapeCast S2048 main_v1 shapeCasts_S1x2048_S2048
  let main_v3 : FVec F S2048 .f32 := Host.absf main_v2
  let main_cst : FVec F S_ .f32 := constant S_ .f32 0x7F800000#32
  let main_v4 : FVec F S2048 .f32 := broadcastInDim S2048 ![] bcast_S_S2048 main_cst
  let main_v5 : IVec S2048 1 := cmpf .olt main_v3 main_v4
  let main_v6 : IVec S1x2048x1 1 := broadcastInDim S1x2048x1 ![1] bcast_S2048_S1x2048x1_1 main_v5
  let main_v7 : FVec F S1x2048x12320 .f32 := Host.absf main_arg2
  let main_cst_0 : FVec F S_ .f32 := constant S_ .f32 0x7F800000#32
  let main_v8 : FVec F S1x2048x12320 .f32 := broadcastInDim S1x2048x12320 ![] bcast_S_S1x2048x12320 main_cst_0
  let main_v9 : IVec S1x2048x12320 1 := cmpf .olt main_v7 main_v8
  let main_c : IVec S_ 32 := constantI S_ 32 6144#32
  let main_v10 : IVec S1x2048x12320 32 := broadcastInDim S1x2048x12320 ![] bcast_S_S1x2048x12320 main_c
  let main_v11 : IVec S1x2048x12320 1 := cmpi .slt main_v0 main_v10
  let main_v12 : IVec S1x2048x12320 1 := ori main_v9 main_v11
  let main_c_1 : IVec S_ 32 := constantI S_ 32 6176#32
  let main_v13 : IVec S1x2048x12320 32 := broadcastInDim S1x2048x12320 ![] bcast_S_S1x2048x12320 main_c_1
  let main_v14 : IVec S1x2048x12320 1 := cmpi .sge main_v0 main_v13
  let main_v15 : IVec S1x2048x12320 1 := ori main_v12 main_v14
  let main_v16 : IVec S1x2048x12320 1 := broadcastInDim S1x2048x12320 ![0, 1, 2] bcast_S1x2048x1_S1x2048x12320_0_1_2 main_v6
  let main_v17 : IVec S1x2048x12320 1 := andi main_v16 main_v15
  main_v17
-- ==== Pre_gates.lean ====
abbrev S8192x2048 : Shape := ⟨2, ![8192, 2048]⟩
abbrev S8192x12288 : Shape := ⟨2, ![8192, 12288]⟩
abbrev S1x2048 : Shape := ⟨2, ![1, 2048]⟩
abbrev S1x16x128x128 : Shape := ⟨4, ![1, 16, 128, 128]⟩
abbrev S1x16x128 : Shape := ⟨3, ![1, 16, 128]⟩
abbrev S1x4096x2048 : Shape := ⟨3, ![1, 4096, 2048]⟩
abbrev S2x2048 : Shape := ⟨2, ![2, 2048]⟩
abbrev S_ : Shape := ⟨0, ![]⟩

class Facts : Prop where
  bcast_S_S8192x12288 : S_.BroadcastsInDim S8192x12288 (![] : Fin 0 → Fin S8192x12288.rank)

variable [Facts]

def fn {F : FTy → Type} [FloatOps F] (main_arg0 : FVec F S8192x2048 .f32) (main_arg1 : FVec F S8192x12288 .f32) (main_arg2 : FVec F S1x2048 .f32) (main_arg3 : FVec F S1x2048 .f32) (main_arg4 : FVec F S1x16x128x128 .f32) (main_arg5 : FVec F S1x16x128 .f32) (main_arg6 : FVec F S1x4096x2048 .f32) (main_arg7 : FVec F S8192x2048 .f32) (main_arg8 : FVec F S2x2048 .f32) : IVec S8192x12288 1 :=
  let main_v0 : IVec S8192x12288 32 := iotaInDim S8192x12288 32 1
  let main_cst : FVec F S_ .f32 := constant S_ .f32 0xFF800000#32
  let main_v1 : FVec F S8192x12288 .f32 := broadcastInDim S8192x12288 ![] bcast_S_S8192x12288 main_cst
  let main_v2 : IVec S8192x12288 1 := cmpf .ogt main_arg1 main_v1
  let main_c : IVec S_ 32 := constantI S_ 32 6144#32
  let main_v3 : IVec S8192x12288 32 := broadcastInDim S8192x12288 ![] bcast_S_S8192x12288 main_c
  let main_v4 : IVec S8192x12288 1 := cmpi .slt main_v0 main_v3
  let main_v5 : IVec S8192x12288 1 := ori main_v2 main_v4
  main_v5
-- ==== Pre_tame.lean ====
abbrev S4x2048x16384 : Shape := ⟨3, ![4, 2048, 16384]⟩
abbrev S1x128 : Shape := ⟨2, ![1, 128]⟩
abbrev S1x256 : Shape := ⟨2, ![1, 256]⟩
abbrev S_ : Shape := ⟨0, ![]⟩

class Facts : Prop where
  bcast_S_S4x2048x16384 : S_.BroadcastsInDim S4x2048x16384 (![] : Fin 0 → Fin S4x2048x16384.rank)

variable [Facts]

def fn {F : FTy → Type} [FloatOps F] (main_arg0 : FVec F S4x2048x16384 .f32) (main_arg1 : FVec F S1x128 .f32) (main_arg2 : FVec F S1x128 .f32) (main_arg3 : FVec F S1x128 .f32) (main_arg4 : FVec F S1x128 .f32) (main_arg5 : FVec F S1x256 .f32) : IVec S4x2048x16384 1 :=
  let main_v0 : IVec S4x2048x16384 32 := iotaInDim S4x2048x16384 32 2
  let main_v1 : FVec F S4x2048x16384 .f32 := Host.absf main_arg0
  let main_cst : FVec F S_ .f32 := constant S_ .f32 0x7F800000#32
  let main_v2 : FVec F S4x2048x16384 .f32 := broadcastInDim S4x2048x16384 ![] bcast_S_S4x2048x16384 main_cst
  let main_v3 : IVec S4x2048x16384 1 := cmpf .olt main_v1 main_v2
  let main_c : IVec S_ 32 := constantI S_ 32 8192#32
  let main_v4 : IVec S4x2048x16384 32 := broadcastInDim S4x2048x16384 ![] bcast_S_S4x2048x16384 main_c
  let main_v5 : IVec S4x2048x16384 1 := cmpi .sge main_v0 main_v4
  let main_v6 : IVec S4x2048x16384 1 := ori main_v3 main_v5
  let main_cst_0 : FVec F S_ .f32 := constant S_ .f32 0xFF800000#32
  let main_v7 : FVec F S4x2048x16384 .f32 := broadcastInDim S4x2048x16384 ![] bcast_S_S4x2048x16384 main_cst_0
  let main_v8 : IVec S4x2048x16384 1 := cmpf .ogt main_arg0 main_v7
  let main_c_1 : IVec S_ 32 := constantI S_ 32 12288#32
  let main_v9 : IVec S4x2048x16384 32 := broadcastInDim S4x2048x16384 ![] bcast_S_S4x2048x16384 main_c_1
  let main_v10 : IVec S4x2048x16384 1 := cmpi .slt main_v0 main_v9
  let main_v11 : IVec S4x2048x16384 1 := ori main_v8 main_v10
  let main_v12 : IVec S4x2048x16384 1 := andi main_v6 main_v11
  main_v12
-- ==== Kernel.lean ====
abbrev S4x2048x16384 : Shape := ⟨3, ![4, 2048, 16384]⟩
abbrev S1x128 : Shape := ⟨2, ![1, 128]⟩
abbrev S1x256 : Shape := ⟨2, ![1, 256]⟩
abbrev S128 : Shape := ⟨1, ![128]⟩
abbrev S256 : Shape := ⟨1, ![256]⟩
abbrev S4x2048x4096 : Shape := ⟨3, ![4, 2048, 4096]⟩
abbrev S1x2048x512 : Shape := ⟨3, ![1, 2048, 512]⟩
abbrev S1 : Shape := ⟨1, ![1]⟩
abbrev S1x1 : Shape := ⟨2, ![1, 1]⟩
abbrev S256x256 : Shape := ⟨2, ![256, 256]⟩
abbrev S1x2048x256 : Shape := ⟨3, ![1, 2048, 256]⟩
abbrev S2048x256 : Shape := ⟨2, ![2048, 256]⟩
abbrev S256x2048 : Shape := ⟨2, ![256, 2048]⟩
abbrev S1x256x256 : Shape := ⟨3, ![1, 256, 256]⟩
abbrev S1x256x128 : Shape := ⟨3, ![1, 256, 128]⟩
abbrev S256x128 : Shape := ⟨2, ![256, 128]⟩
abbrev S256x512 : Shape := ⟨2, ![256, 512]⟩
abbrev S512x256 : Shape := ⟨2, ![512, 256]⟩
abbrev S256x1 : Shape := ⟨2, ![256, 1]⟩
abbrev S256x768 : Shape := ⟨2, ![256, 768]⟩
abbrev S768x256 : Shape := ⟨2, ![768, 256]⟩
abbrev S256x1024 : Shape := ⟨2, ![256, 1024]⟩
abbrev S1024x256 : Shape := ⟨2, ![1024, 256]⟩
abbrev S256x1280 : Shape := ⟨2, ![256, 1280]⟩
abbrev S1280x256 : Shape := ⟨2, ![1280, 256]⟩
abbrev S256x1536 : Shape := ⟨2, ![256, 1536]⟩
abbrev S1536x256 : Shape := ⟨2, ![1536, 256]⟩
abbrev S256x1792 : Shape := ⟨2, ![256, 1792]⟩
abbrev S1792x256 : Shape := ⟨2, ![1792, 256]⟩

abbrev nBuf : Space → Nat
  | .hbm => 18
  | .vmem => 15
  | .smem => 0
  | _ => 0

abbrev bufTy : (tb : Table) → Fin (tcTables nBuf tb) → BufTy
  | .hbm, ⟨0, _⟩ => ⟨S4x2048x16384, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S4x2048x16384, .bf16⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x256, .f32⟩
  | .hbm, ⟨17, _⟩ => ⟨S4x2048x4096, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x256, .f32⟩
  | .local _ .vmem, ⟨13, _⟩ => ⟨S1x2048x512, .bf16⟩
  | .local _ .vmem, ⟨14, _⟩ => ⟨S1x2048x512, .bf16⟩
  | _, _ => ⟨S4x2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | "qscale" => some (((Real.sqrt 128)⁻¹ * (Real.log 2)⁻¹ : ℝ) : EReal)
  | _ => none
-- ==== ReferenceIdeal.lean ====
abbrev S4x2048x16384 : Shape := ⟨3, ![4, 2048, 16384]⟩
abbrev S1x128 : Shape := ⟨2, ![1, 128]⟩
abbrev S1x256 : Shape := ⟨2, ![1, 256]⟩
abbrev S4x2048x4096 : Shape := ⟨3, ![4, 2048, 4096]⟩
abbrev S4x2048x16x2x128 : Shape := ⟨5, ![4, 2048, 16, 2, 128]⟩
abbrev S4x16x2x2048x128 : Shape := ⟨5, ![4, 16, 2, 2048, 128]⟩
abbrev S4x2048x16x256 : Shape := ⟨4, ![4, 2048, 16, 256]⟩
abbrev S4x16x2048x256 : Shape := ⟨4, ![4, 16, 2048, 256]⟩
abbrev S128 : Shape := ⟨1, ![128]⟩
abbrev S_ : Shape := ⟨0, ![]⟩
abbrev S4x16x2x2048x2048 : Shape := ⟨5, ![4, 16, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2x2048 : Shape := ⟨4, ![4, 16, 2, 2048]⟩
abbrev S4x16x2x2048x1 : Shape := ⟨5, ![4, 16, 2, 2048, 1]⟩
abbrev S4x16x1x2048x2048 : Shape := ⟨5, ![4, 16, 1, 2048, 2048]⟩
abbrev S4x16x2048x2048 : Shape := ⟨4, ![4, 16, 2048, 2048]⟩
abbrev S256 : Shape := ⟨1, ![256]⟩
abbrev S4x16x2048 : Shape := ⟨3, ![4, 16, 2048]⟩
abbrev S4x16x2048x1 : Shape := ⟨4, ![4, 16, 2048, 1]⟩
abbrev S1x1x1x256 : Shape := ⟨4, ![1, 1, 1, 256]⟩

abbrev nBuf : Space → Nat
  | .hbm => 104
  | .vmem => 0
  | .smem => 0
  | _ => 0

abbrev bufTy : (tb : Table) → Fin (tcTables nBuf tb) → BufTy
  | .hbm, ⟨0, _⟩ => ⟨S4x2048x16384, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S4x2048x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x16x2x128, .f32⟩
  | .hbm, ⟨11, _⟩ => ⟨S4x16x2x2048x128, .f32⟩
  | .hbm, ⟨12, _⟩ => ⟨S4x2048x16x2x128, .f32⟩
  | .hbm, ⟨13, _⟩ => ⟨S4x16x2x2048x128, .f32⟩
  | .hbm, ⟨14, _⟩ => ⟨S4x2048x16x256, .f32⟩
  | .hbm, ⟨15, _⟩ => ⟨S4x16x2048x256, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x16x2x2048x2048, .f32⟩
  | .hbm, ⟨36, _⟩ => ⟨S4x16x2x2048x2048, .f32⟩
  | .hbm, ⟨37, _⟩ => ⟨S4x16x2x2048x2048, .f32⟩
  | .hbm, ⟨38, _⟩ => ⟨S2048, .i32⟩
  | .hbm, ⟨39, _⟩ => ⟨S1x2048, .i32⟩
  | .hbm, ⟨40, _⟩ => ⟨S2048x1, .i32⟩
  | .hbm, ⟨41, _⟩ => ⟨S2048x2048, .i32⟩
  | .hbm, ⟨42, _⟩ => ⟨S2048x2048, .i32⟩
  | .hbm, ⟨43, _⟩ => ⟨S2048x2048, .i1⟩
  | .hbm, ⟨44, _⟩ => ⟨S_, .f32⟩
  | .hbm, ⟨45, _⟩ => ⟨S_, .f32⟩
  | .hbm, ⟨46, _⟩ => ⟨S4x16x2x2048x2048, .i1⟩
  | .hbm, ⟨47, _⟩ => ⟨S4x16x2x2048x2048, .f32⟩
  | .hbm, ⟨48, _⟩ => ⟨S4x16x2x2048x2048, .f32⟩
  | .hbm, ⟨49, _⟩ => ⟨S_, .f32⟩
  | .hbm, ⟨50, _⟩ => ⟨S4x16x2x2048, .f32⟩
  | .hbm, ⟨51, _⟩ => ⟨S_, .f32⟩
  | .hbm, ⟨52, _⟩ => ⟨S4x16x2x2048, .f32⟩
  | .hbm, ⟨53, _⟩ => ⟨S4x16x2x2048, .f32⟩
  | .hbm, ⟨54, _⟩ => ⟨S4x16x2x2048x1, .f32⟩
  | .hbm, ⟨55, _⟩ => ⟨S4x16x2x2048x2048, .f32⟩
  | .hbm, ⟨56, _⟩ => ⟨S4x16x2x2048x2048, .f32⟩
  | .hbm, ⟨57, _⟩ => ⟨S4x16x2x2048x2048, .f32⟩
  | .hbm, ⟨58, _⟩ => ⟨S_, .f32⟩
  | .hbm, ⟨59, _⟩ => ⟨S4x16x2x2048, .f32⟩
  | .hbm, ⟨60, _⟩ => ⟨S4x16x2x2048x1, .f32⟩
  | .hbm, ⟨61, _⟩ => ⟨S4x16x2x2048x2048, .f32⟩
  | .hbm, ⟨62, _⟩ => ⟨S4x16x2x2048x2048, .f32⟩
  | .hbm, ⟨63, _⟩ => ⟨S4x16x1x2048x2048, .f32⟩
  | .hbm, ⟨64, _⟩ => ⟨S4x16x2048x2048, .f32⟩
  | .hbm, ⟨65, _⟩ => ⟨S4x16x1x2048x2048, .f32⟩
  | .hbm, ⟨66, _⟩ => ⟨S4x16x2048x2048, .f32⟩
  | .hbm, ⟨67, _⟩ => ⟨S4x16x2048x2048, .f32⟩
  | .hbm, ⟨68, _⟩ => ⟨S4x16x2048x2048, .f32⟩
  | .hbm, ⟨69, _⟩ => ⟨S4x16x2048x2048, .f32⟩
  | .hbm, ⟨70, _⟩ => ⟨S4x16x2048x256, .f32⟩
  | .hbm, ⟨71, _⟩ => ⟨S256, .f32⟩
  | .hbm, ⟨72, _⟩ => ⟨S4x16x2048x256, .f32⟩
  | .hbm, ⟨73, _⟩ => ⟨S_, .f32⟩
  | .hbm, ⟨74, _⟩ => ⟨S4x16x2048, .f32⟩
  | .hbm, ⟨75, _⟩ => ⟨S4x16x2048x1, .f32⟩
  | .hbm, ⟨76, _⟩ => ⟨S_, .f32⟩
  | .hbm, ⟨77, _⟩ => ⟨S4x16x2048x1, .f32⟩
  | .hbm, ⟨78, _⟩ => ⟨S4x16x2048x1, .f32⟩
  | .hbm, ⟨79, _⟩ => ⟨S_, .f32⟩
  | .hbm, ⟨80, _⟩ => ⟨S4x16x2048x1, .f32⟩
  | .hbm, ⟨81, _⟩ => ⟨S4x16x2048x1, .f32⟩
  | .hbm, ⟨82, _⟩ => ⟨S4x16x2048x1, .f32⟩
  | .hbm, ⟨83, _⟩ => ⟨S4x16x2048x256, .f32⟩
  | .hbm, ⟨84, _⟩ => ⟨S4x16x2048x256, .f32⟩
  | .hbm, ⟨85, _⟩ => ⟨S1x1x1x256, .f32⟩
  | .hbm, ⟨86, _⟩ => ⟨S4x16x2048x256, .f32⟩
  | .hbm, ⟨87, _⟩ => ⟨S4x16x2048x256, .f32⟩
  | .hbm, ⟨88, _⟩ => ⟨S_, .f32⟩
  | .hbm, ⟨89, _⟩ => ⟨S4x16x2048x256, .f32⟩
  | .hbm, ⟨90, _⟩ => ⟨S4x16x2048x256, .f32⟩
  | .hbm, ⟨91, _⟩ => ⟨S4x2048x16x256, .f32⟩
  | .hbm, ⟨92, _⟩ => ⟨S4x2048x4096, .f32⟩
  | .hbm, ⟨93, _⟩ => ⟨S4x2048x4096, .f32⟩
  | .hbm, ⟨94, _⟩ => ⟨S4x2048x4096, .f32⟩
  | .hbm, ⟨95, _⟩ => ⟨S_, .f32⟩
  | .hbm, ⟨96, _⟩ => ⟨S4x2048x4096, .f32⟩
  | .hbm, ⟨97, _⟩ => ⟨S4x2048x4096, .f32⟩
  | .hbm, ⟨98, _⟩ => ⟨S_, .f32⟩
  | .hbm, ⟨99, _⟩ => ⟨S4x2048x4096, .f32⟩
  | .hbm, ⟨100, _⟩ => ⟨S4x2048x4096, .f32⟩
  | .hbm, ⟨101, _⟩ => ⟨S4x2048x4096, .f32⟩
  | .hbm, ⟨102, _⟩ => ⟨S4x2048x4096, .f32⟩
  | .hbm, ⟨103, _⟩ => ⟨S4x2048x4096, .bf16⟩
  | _, _ => ⟨S4x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Kernel2.lean ====
abbrev S8192x2048 : Shape := ⟨2, ![8192, 2048]⟩
abbrev S1x2048x16384 : Shape := ⟨3, ![1, 2048, 16384]⟩
abbrev S1x4096x2048 : Shape := ⟨3, ![1, 4096, 2048]⟩
abbrev S8192x16384 : Shape := ⟨2, ![8192, 16384]⟩
abbrev S4096x2048 : Shape := ⟨2, ![4096, 2048]⟩
abbrev S2048x2048 : Shape := ⟨2, ![2048, 2048]⟩
abbrev S1x2048x1024 : Shape := ⟨3, ![1, 2048, 1024]⟩
abbrev S1x128x2048 : Shape := ⟨3, ![1, 128, 2048]⟩
abbrev S2048x1024 : Shape := ⟨2, ![2048, 1024]⟩
abbrev S128x2048 : Shape := ⟨2, ![128, 2048]⟩
abbrev S1024x2048 : Shape := ⟨2, ![1024, 2048]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048x16384, .f32⟩
  | .hbm, ⟨2, _⟩ => ⟨S1x4096x2048, .f32⟩
  | .hbm, ⟨3, _⟩ => ⟨S8192x2048, .bf16⟩
  | .hbm, ⟨4, _⟩ => ⟨S8192x16384, .bf16⟩
  | .hbm, ⟨5, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x128x2048, .f32⟩
  | .local _ .vmem, ⟨5, _⟩ => ⟨S1x128x2048, .f32⟩
  | .local _ .vmem, ⟨6, _⟩ => ⟨S2048x1024, .bf16⟩
  | .local _ .vmem, ⟨7, _⟩ => ⟨S2048x1024, .bf16⟩
  | .local _ .vmem, ⟨8, _⟩ => ⟨S128x2048, .bf16⟩
  | .local _ .vmem, ⟨9, _⟩ => ⟨S128x2048, .bf16⟩
  | .local _ .vmem, ⟨10, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x2048 : Shape := ⟨2, ![8192, 2048]⟩
abbrev S1x2048x16384 : Shape := ⟨3, ![1, 2048, 16384]⟩
abbrev S1x4096x2048 : Shape := ⟨3, ![1, 4096, 2048]⟩
abbrev S2048x16384 : Shape := ⟨2, ![2048, 16384]⟩
abbrev S8192x16384 : Shape := ⟨2, ![8192, 16384]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x16384, .f32⟩
  | .hbm, ⟨2, _⟩ => ⟨S1x4096x2048, .f32⟩
  | .hbm, ⟨3, _⟩ => ⟨S2048x16384, .f32⟩
  | .hbm, ⟨4, _⟩ => ⟨S8192x16384, .f32⟩
  | .hbm, ⟨5, _⟩ => ⟨S8192x16384, .bf16⟩
  | .hbm, ⟨6, _⟩ => ⟨S4096x2048, .f32⟩
  | .hbm, ⟨7, _⟩ => ⟨S4096x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x2048 : Shape := ⟨2, ![8192, 2048]⟩
abbrev S1x2048x12320 : Shape := ⟨3, ![1, 2048, 12320]⟩
abbrev S1x4096x2048 : Shape := ⟨3, ![1, 4096, 2048]⟩
abbrev S1x12320x2048 : Shape := ⟨3, ![1, 12320, 2048]⟩
abbrev S8192x12288 : Shape := ⟨2, ![8192, 12288]⟩
abbrev S4096x2048 : Shape := ⟨2, ![4096, 2048]⟩
abbrev S2048x2048 : Shape := ⟨2, ![2048, 2048]⟩
abbrev S1x1024x2048 : Shape := ⟨3, ![1, 1024, 2048]⟩
abbrev S1x128x2048 : Shape := ⟨3, ![1, 128, 2048]⟩
abbrev S2048x1024 : Shape := ⟨2, ![2048, 1024]⟩
abbrev S128x2048 : Shape := ⟨2, ![128, 2048]⟩
abbrev S1024x2048 : Shape := ⟨2, ![1024, 2048]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048x12320, .f32⟩
  | .hbm, ⟨2, _⟩ => ⟨S1x4096x2048, .f32⟩
  | .hbm, ⟨3, _⟩ => ⟨S1x12320x2048, .f32⟩
  | .hbm, ⟨4, _⟩ => ⟨S8192x2048, .bf16⟩
  | .hbm, ⟨5, _⟩ => ⟨S8192x12288, .bf16⟩
  | .hbm, ⟨6, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x128x2048, .f32⟩
  | .local _ .vmem, ⟨5, _⟩ => ⟨S1x128x2048, .f32⟩
  | .local _ .vmem, ⟨6, _⟩ => ⟨S2048x1024, .bf16⟩
  | .local _ .vmem, ⟨7, _⟩ => ⟨S2048x1024, .bf16⟩
  | .local _ .vmem, ⟨8, _⟩ => ⟨S128x2048, .bf16⟩
  | .local _ .vmem, ⟨9, _⟩ => ⟨S128x2048, .bf16⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1024_i32 : BitVec 32 := 1024#32
  let v1 : BitVec 32 := Scalar.muli arg0 c1024_i32
  let c6144_i32 : BitVec 32 := 6144#32
  let v2 : BitVec 1 := Scalar.cmpi .sge v1 c6144_i32
  let c4_i32 : BitVec 32 := 4#32
  let c0_i32 : BitVec 32 := 0#32
  let v3 : BitVec 32 := Scalar.select v2 c4_i32 c0_i32
  let v4 : BitVec 32 := Scalar.addi v0 v3
  let c8_i32 : BitVec 32 := 8#32
  let v5 : BitVec 32 := Scalar.muli c8_i32 v4
  let c0_i32_0 : BitVec 32 := 0#32
  let c0_i32_1 : BitVec 32 := 0#32
  let c0_i32_2 : BitVec 32 := 0#32
  ![c0_i32_0.toNat, v5.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x2048 : Shape := ⟨2, ![8192, 2048]⟩
abbrev S1x2048x12320 : Shape := ⟨3, ![1, 2048, 12320]⟩
abbrev S1x4096x2048 : Shape := ⟨3, ![1, 4096, 2048]⟩
abbrev S2048x12320 : Shape := ⟨2, ![2048, 12320]⟩
abbrev S8192x12320 : Shape := ⟨2, ![8192, 12320]⟩
abbrev S8192x4096 : Shape := ⟨2, ![8192, 4096]⟩
abbrev S8192x32 : Shape := ⟨2, ![8192, 32]⟩
abbrev S8192x12288 : Shape := ⟨2, ![8192, 12288]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x12320, .f32⟩
  | .hbm, ⟨2, _⟩ => ⟨S1x4096x2048, .f32⟩
  | .hbm, ⟨3, _⟩ => ⟨S2048x12320, .f32⟩
  | .hbm, ⟨4, _⟩ => ⟨S8192x12320, .f32⟩
  | .hbm, ⟨5, _⟩ => ⟨S8192x2048, .f32⟩
  | .hbm, ⟨6, _⟩ => ⟨S8192x4096, .f32⟩
  | .hbm, ⟨7, _⟩ => ⟨S8192x32, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x12288, .f32⟩
  | .hbm, ⟨12, _⟩ => ⟨S8192x12288, .bf16⟩
  | .hbm, ⟨13, _⟩ => ⟨S4096x2048, .f32⟩
  | .hbm, ⟨14, _⟩ => ⟨S4096x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S8192x4096 : Shape := ⟨2, ![8192, 4096]⟩
abbrev S1x4096x2048 : Shape := ⟨3, ![1, 4096, 2048]⟩
abbrev S8192x2048 : Shape := ⟨2, ![8192, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S1x4096x2048, .f32⟩
  | .hbm, ⟨2, _⟩ => ⟨S8192x2048, .f32⟩
  | .hbm, ⟨3, _⟩ => ⟨S2048, .f32⟩
  | .hbm, ⟨4, _⟩ => ⟨S8192x4096, .bf16⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x4096 : Shape := ⟨2, ![8192, 4096]⟩
abbrev S1x4096x2048 : Shape := ⟨3, ![1, 4096, 2048]⟩
abbrev S8192x2048 : Shape := ⟨2, ![8192, 2048]⟩
abbrev S2048 : Shape := ⟨1, ![2048]⟩
abbrev S4096x2048 : Shape := ⟨2, ![4096, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x2048, .f32⟩
  | .hbm, ⟨2, _⟩ => ⟨S8192x2048, .f32⟩
  | .hbm, ⟨3, _⟩ => ⟨S2048, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S8192x2048 : Shape := ⟨2, ![8192, 2048]⟩
abbrev S8192x12288 : Shape := ⟨2, ![8192, 12288]⟩
abbrev S1x2048 : Shape := ⟨2, ![1, 2048]⟩
abbrev S1x16x128x128 : Shape := ⟨4, ![1, 16, 128, 128]⟩
abbrev S1x16x128 : Shape := ⟨3, ![1, 16, 128]⟩
abbrev S1x4096x2048 : Shape := ⟨3, ![1, 4096, 2048]⟩
abbrev S2x2048 : Shape := ⟨2, ![2, 2048]⟩
abbrev S2048 : Shape := ⟨1, ![2048]⟩
abbrev S16x128x128 : Shape := ⟨3, ![16, 128, 128]⟩
abbrev S16x128 : Shape := ⟨2, ![16, 128]⟩
abbrev S4096x2048 : Shape := ⟨2, ![4096, 2048]⟩
abbrev S128x16 : Shape := ⟨2, ![128, 16]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩
abbrev S128x1 : Shape := ⟨2, ![128, 1]⟩
abbrev S256x256 : Shape := ⟨2, ![256, 256]⟩
abbrev S2048x256 : Shape := ⟨2, ![2048, 256]⟩

abbrev nBuf : Space → Nat
  | .hbm => 25
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x12288, .f32⟩
  | .hbm, ⟨2, _⟩ => ⟨S1x2048, .f32⟩
  | .hbm, ⟨3, _⟩ => ⟨S1x2048, .f32⟩
  | .hbm, ⟨4, _⟩ => ⟨S1x16x128x128, .f32⟩
  | .hbm, ⟨5, _⟩ => ⟨S1x16x128, .f32⟩
  | .hbm, ⟨6, _⟩ => ⟨S1x4096x2048, .f32⟩
  | .hbm, ⟨7, _⟩ => ⟨S8192x2048, .f32⟩
  | .hbm, ⟨8, _⟩ => ⟨S2x2048, .f32⟩
  | .hbm, ⟨9, _⟩ => ⟨S8192x2048, .bf16⟩
  | .hbm, ⟨10, _⟩ => ⟨S8192x12288, .bf16⟩
  | .hbm, ⟨11, _⟩ => ⟨S2048, .f32⟩
  | .hbm, ⟨12, _⟩ => ⟨S2048, .f32⟩
  | .hbm, ⟨13, _⟩ => ⟨S16x128x128, .f32⟩
  | .hbm, ⟨14, _⟩ => ⟨S16x128, .f32⟩
  | .hbm, ⟨15, _⟩ => ⟨S4096x2048, .f32⟩
  | .hbm, ⟨16, _⟩ => ⟨S4096x2048, .bf16⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S128x16, .f32⟩
  | .hbm, ⟨22, _⟩ => ⟨S1x2048, .f32⟩
  | .hbm, ⟨23, _⟩ => ⟨S8192x2048, .f32⟩
  | .hbm, ⟨24, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S16x128x128, .f32⟩
  | .local _ .vmem, ⟨11, _⟩ => ⟨S128x16, .f32⟩
  | .local _ .vmem, ⟨12, _⟩ => ⟨S2048x2048, .bf16⟩
  | .local _ .vmem, ⟨13, _⟩ => ⟨S2048x2048, .bf16⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel5Ideal.lean ====
variable {F : FTy → Type} [FloatOps F] [Named F]
def κ : String → Option EReal := fun
  | "gelu_cubic" => some ((80338380498831 / 2251799813685248 : ℝ) : EReal)
  | _ => none
-- ==== Reference5Ideal.lean ====
abbrev S8192x2048 : Shape := ⟨2, ![8192, 2048]⟩
abbrev S8192x12288 : Shape := ⟨2, ![8192, 12288]⟩
abbrev S1x2048 : Shape := ⟨2, ![1, 2048]⟩
abbrev S1x16x128x128 : Shape := ⟨4, ![1, 16, 128, 128]⟩
abbrev S1x16x128 : Shape := ⟨3, ![1, 16, 128]⟩
abbrev S1x4096x2048 : Shape := ⟨3, ![1, 4096, 2048]⟩
abbrev S2x2048 : Shape := ⟨2, ![2, 2048]⟩
abbrev S_ : Shape := ⟨0, ![]⟩
abbrev S2048 : Shape := ⟨1, ![2048]⟩
abbrev S8192 : Shape := ⟨1, ![8192]⟩
abbrev S8192x1 : Shape := ⟨2, ![8192, 1]⟩
abbrev S4x16x128x16x128 : Shape := ⟨5, ![4, 16, 128, 16, 128]⟩
abbrev S16x128x128 : Shape := ⟨3, ![16, 128, 128]⟩
abbrev S128x128 : Shape := ⟨2, ![128, 128]⟩
abbrev S1x128x128 : Shape := ⟨3, ![1, 128, 128]⟩
abbrev S16x4x16x128x128 : Shape := ⟨5, ![16, 4, 16, 128, 128]⟩
abbrev S16x128 : Shape := ⟨2, ![16, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S8192x4096 : Shape := ⟨2, ![8192, 4096]⟩
abbrev S4096x2048 : Shape := ⟨2, ![4096, 2048]⟩

abbrev nBuf : Space → Nat
  | .hbm => 134
  | .vmem => 0
  | .smem => 0
  | _ => 0

abbrev hbmTy0_0 (i : Nat) : BufTy := match i % 128 with
  | 0 => ⟨S8192x2048, .f32⟩
  | 1 => ⟨S8192x12288, .f32⟩
  | 2 => ⟨S1x2048, .f32⟩
  | 3 => ⟨S1x2048, .f32⟩
  | 4 => ⟨S1x16x128x128, .f32⟩
  | 5 => ⟨S1x16x128, .f32⟩
  | 6 => ⟨S1x4096x2048, .f32⟩
  | 7 => ⟨S8192x2048, .f32⟩
  | 8 => ⟨S2x2048, .f32⟩
  | 9 => ⟨S8192x2048, .f32⟩
  | 10 => ⟨S8192x2048, .f32⟩
  | 11 => ⟨S8192x2048, .f32⟩
  | 12 => ⟨S8192x2048, .f32⟩
  | 13 => ⟨S8192x2048, .f32⟩
  | 14 => ⟨S_, .f32⟩
  | 15 => ⟨S8192x2048, .f32⟩
  | 16 => ⟨S8192x2048, .f32⟩
  | 17 => ⟨S8192x2048, .f32⟩
  | 18 => ⟨S_, .f32⟩
  | 19 => ⟨S8192x2048, .f32⟩
  | 20 => ⟨S8192x2048, .f32⟩
  | 21 => ⟨S8192x2048, .f32⟩
  | 22 => ⟨S_, .f32⟩
  | 23 => ⟨S8192x2048, .f32⟩
  | 24 => ⟨S8192x2048, .f32⟩
  | 25 => ⟨S_, .f32⟩
  | 26 => ⟨S8192x2048, .f32⟩
  | 27 => ⟨S8192x2048, .f32⟩
  | 28 => ⟨S8192x2048, .f32⟩
  | 29 => ⟨S8192x2048, .f32⟩
  | 30 => ⟨S8192x2048, .f32⟩
  | 31 => ⟨S_, .f32⟩
  | 32 => ⟨S8192x2048, .f32⟩
  | 33 => ⟨S8192x2048, .f32⟩
  | 34 => ⟨S8192x2048, .f32⟩
  | 35 => ⟨S_, .f32⟩
  | 36 => ⟨S8192x2048, .f32⟩
  | 37 => ⟨S8192x2048, .f32⟩
  | 38 => ⟨S8192x2048, .f32⟩
  | 39 => ⟨S_, .f32⟩
  | 40 => ⟨S8192x2048, .f32⟩
  | 41 => ⟨S8192x2048, .f32⟩
  | 42 => ⟨S_, .f32⟩
  | 43 => ⟨S8192x2048, .f32⟩
  | 44 => ⟨S8192x2048, .f32⟩
  | 45 => ⟨S8192x2048, .f32⟩
  | 46 => ⟨S2048, .f32⟩
  | 47 => ⟨S2048, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S8192x2048, .f32⟩
  | 55 => ⟨S8192x2048, .f32⟩
  | 56 => ⟨S8192x2048, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1, .f32⟩
  | 67 => ⟨S8192x2048, .f32⟩
  | 68 => ⟨S8192x2048, .f32⟩
  | 69 => ⟨S1x2048, .f32⟩
  | 70 => ⟨S8192x2048, .f32⟩
  | 71 => ⟨S8192x2048, .f32⟩
  | 72 => ⟨S1x2048, .f32⟩
  | 73 => ⟨S8192x2048, .f32⟩
  | 74 => ⟨S8192x2048, .f32⟩
  | 75 => ⟨S4x16x128x16x128, .f32⟩
  | 76 => ⟨S16x128x128, .f32⟩
  | 77 => ⟨S_, .f32⟩
  | 78 => ⟨S128x128, .f32⟩
  | 79 => ⟨S128x128, .i32⟩
  | 80 => ⟨S_, .i32⟩
  | 81 => ⟨S128x128, .i32⟩
  | 82 => ⟨S128x128, .i32⟩
  | 83 => ⟨S128x128, .i32⟩
  | 84 => ⟨S128x128, .i1⟩
  | 85 => ⟨S_, .f32⟩
  | 86 => ⟨S128x128, .f32⟩
  | 87 => ⟨S128x128, .f32⟩
  | 88 => ⟨S1x128x128, .f32⟩
  | 89 => ⟨S16x128x128, .f32⟩
  | 90 => ⟨S16x128x128, .f32⟩
  | 91 => ⟨S16x4x16x128x128, .f32⟩
  | 92 => ⟨S4x16x128x16x128, .f32⟩
  | 93 => ⟨S16x128, .f32⟩
  | 94 => ⟨S128x16, .f32⟩
  | 95 => ⟨S128x16x1, .f32⟩
  | 96 => ⟨S1x1x128x16x1, .f32⟩
  | 97 => ⟨S4x16x128x16x128, .f32⟩
  | 98 => ⟨S4x16x128x16x128, .f32⟩
  | 99 => ⟨S8192x2048, .f32⟩
  | 100 => ⟨S8192x2048, .f32⟩
  | 101 => ⟨S8192x2048, .f32⟩
  | 102 => ⟨S8192x2048, .f32⟩
  | 103 => ⟨S_, .f32⟩
  | 104 => ⟨S8192x2048, .f32⟩
  | 105 => ⟨S8192x2048, .f32⟩
  | 106 => ⟨S_, .f32⟩
  | 107 => ⟨S8192x2048, .f32⟩
  | 108 => ⟨S8192x2048, .f32⟩
  | 109 => ⟨S8192x2048, .f32⟩
  | 110 => ⟨S8192x2048, .f32⟩
  | 111 => ⟨S8192x4096, .f32⟩
  | 112 => ⟨S4096x2048, .f32⟩
  | 113 => ⟨S8192x2048, .f32⟩
  | 114 => ⟨S8192x2048, .f32⟩
  | 115 => ⟨S1x2048, .f32⟩
  | 116 => ⟨S2048, .f32⟩
  | 117 => ⟨S8192x2048, .f32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192x1, .f32⟩
  | 126 => ⟨S8192x1, .f32⟩
  | 127 => ⟨S8192x1, .f32⟩
  | _ => ⟨S8192x2048, .f32⟩

abbrev hbmTy0_1 (i : Nat) : BufTy := match i % 128 with
  | 0 => ⟨S8192x2048, .f32⟩
  | 1 => ⟨S8192x2048, .f32⟩
  | 2 => ⟨S1x2048, .f32⟩
  | 3 => ⟨S8192x2048, .f32⟩
  | 4 => ⟨S8192x2048, .f32⟩
  | 5 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_cst : Ref sig .tc := ⟨.hbm, 85, rfl⟩
abbrev main_call0_v5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_call1_v5 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_13 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩

abbrev nD : Nat := 1
abbrev τ : Topo := Topo.v7x

variable {F : FTy → Type} [FloatOps F]
-- ==== Kernel6.lean ====
abbrev S8192x2048 : Shape := ⟨2, ![8192, 2048]⟩
abbrev S2x2048 : Shape := ⟨2, ![2, 2048]⟩
abbrev S1x2048x12320 : Shape := ⟨3, ![1, 2048, 12320]⟩
abbrev S1x2048 : Shape := ⟨2, ![1, 2048]⟩
abbrev S2048 : Shape := ⟨1, ![2048]⟩
abbrev S1x12320x2048 : Shape := ⟨3, ![1, 12320, 2048]⟩
abbrev S8192x128 : Shape := ⟨2, ![8192, 128]⟩
abbrev S512x2048 : Shape := ⟨2, ![512, 2048]⟩
abbrev S1x128x2048 : Shape := ⟨3, ![1, 128, 2048]⟩
abbrev S512x128 : Shape := ⟨2, ![512, 128]⟩
abbrev S512 : Shape := ⟨1, ![512]⟩
abbrev S512x1 : Shape := ⟨2, ![512, 1]⟩
abbrev S128x2048 : Shape := ⟨2, ![128, 2048]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x12320, .f32⟩
  | .hbm, ⟨3, _⟩ => ⟨S1x2048, .f32⟩
  | .hbm, ⟨4, _⟩ => ⟨S2048, .f32⟩
  | .hbm, ⟨5, _⟩ => ⟨S1x12320x2048, .f32⟩
  | .hbm, ⟨6, _⟩ => ⟨S1x2048, .f32⟩
  | .hbm, ⟨7, _⟩ => ⟨S8192x2048, .bf16⟩
  | .hbm, ⟨8, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x128x2048, .f32⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c48_i32 : BitVec 32 := 48#32
  let c0_i32_0 : BitVec 32 := 0#32
  let c0_i32_1 : BitVec 32 := 0#32
  ![c0_i32.toNat, c48_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x2048 : Shape := ⟨2, ![8192, 2048]⟩
abbrev S2x2048 : Shape := ⟨2, ![2, 2048]⟩
abbrev S1x2048x12320 : Shape := ⟨3, ![1, 2048, 12320]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x12320 : Shape := ⟨2, ![2048, 12320]⟩
abbrev S2048x32 : Shape := ⟨2, ![2048, 32]⟩
abbrev S8192x32 : Shape := ⟨2, ![8192, 32]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x12320, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x12320, .f32⟩
  | .hbm, ⟨22, _⟩ => ⟨S2048x32, .f32⟩
  | .hbm, ⟨23, _⟩ => ⟨S8192x32, .f32⟩
  | .hbm, ⟨24, _⟩ => ⟨S8192x2048, .bf16⟩
  | .hbm, ⟨25, _⟩ => ⟨S_, .i32⟩
  | .hbm, ⟨26, _⟩ => ⟨S_, .f32⟩
  | .hbm, ⟨27, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Tile.lean ====
/- One query tile of the attention kernel as one function of the loaded blocks, for every number of key
   blocks: scores, causal mask on the last block, per-block softmax statistics, their rescaling to the row's
   maximum, the difference of the two probability blocks, the product with the values and the finishing norm
   and gate. The sixteen stores of the kernel body are sixteen instances of it (Pieces.lean). -/
module

public import proofs.«01_k».proof.Proof.Gen.KernelIdeal.Frame

@[expose] public section

set_option maxRecDepth 16384

noncomputable section

namespace Cert.KernelIdeal.Attn

open Cert.KernelIdeal Cert.KernelIdeal.Gen Idealize.ShloMosaic Idealize.SL.Sem

variable {F : FTy → Type} [FloatOps F] [Named F]

/-- The query tile times the softmax scale in base two. -/
def qs (v : Vec F S1x256x256 .bf16) : FVec F S256x256 .bf16 :=
  truncf .bf16 (mulf (extf .f32 (shapeCast S256x256 v shapeCasts_S1x256x256_S256x256) bitsLt_bf16_f32)
    (broadcast S256x256 (Named.named κ "qscale" 0x3E0293EE#32))) bitsLt_bf16_f32

/-- The first half of the scaled query tile's columns. -/
def qh0 (v : Vec F S1x256x256 .bf16) : FVec F S256x128 .bf16 :=
  extractStridedSlice S256x128 ![0, 0] (qs v) slices_S256x256_o0_0_S256x128

/-- The second half of the scaled query tile's columns. -/
def qh1 (v : Vec F S1x256x256 .bf16) : FVec F S256x128 .bf16 :=
  extractStridedSlice S256x128 ![0, 128] (qs v) slices_S256x256_o0_128_S256x128

/-- The scores of one key block against one query half, keys along the rows. -/
def sc (k : Vec F S1x256x128 .bf16) (q : FVec F S256x128 .bf16) : FVec F S256x256 .f32 :=
  matmul dot_S256x128_S256x128_S256x256_1_1_0_0_n_n none (shapeCast S256x128 k shapeCasts_S1x256x128_S256x128) q
    (constant S256x256 .f32 0x00000000#32)

/-- The causal mask of the block on the diagonal. -/
def msk (s : FVec F S256x256 .f32) : FVec F S256x256 .f32 :=
  select (cmpi .sle (addi (iota .tc S256x256 32 [0] iota_S256x256_d0_w32) (broadcast S256x256 0#32))
      (iota .tc S256x256 32 [1] iota_S256x256_d1_w32)) s
    (broadcast S256x256 (Named.named κ "mask" 0xFEFFFFFF#32))

/-- The score blocks of query tile `i`: block `i` masked, the earlier ones whole. -/
def scs (i : ℕ) (kb : ℕ → Vec F S1x256x128 .bf16) (q : FVec F S256x128 .bf16) (t : ℕ) : FVec F S256x256 .f32 :=
  bif t.blt i then sc (kb t) q else msk (sc (kb t) q)

/-- The maximum over a block's keys. -/
def bm (s : FVec F S256x256 .f32) : FVec F S1x256 .f32 :=
  shapeCast S1x256 (multiReduction .maximumf [0] S256 s 0xFF800000#32 reduces_S256x256_S256 (.inl rfl) rfl)
    shapeCasts_S256_S1x256

/-- A block's scores as powers of two, relative to its maximum. -/
def be (s : FVec F S256x256 .f32) : FVec F S256x256 .f32 :=
  exp2 (subf s (broadcastTo S256x256 (bm s) broadcasts_S1x256_S256x256))

/-- The sum of a block's powers. -/
def bs (s : FVec F S256x256 .f32) : FVec F S1x256 .f32 :=
  shapeCast S1x256 (multiReduction .add [0] S256 (be s) 0x00000000#32 reduces_S256x256_S256 (.inl rfl) rfl)
    shapeCasts_S256_S1x256

/-- The maximum over blocks `0, …, n`. -/
def mall (S : ℕ → FVec F S256x256 .f32) : ℕ → FVec F S1x256 .f32
  | 0 => bm (S 0)
  | n + 1 => maximumf (mall S n) (bm (S (n + 1)))

/-- The factor that moves a block's powers from its own maximum to `M`. -/
def alph (M : FVec F S1x256 .f32) (s : FVec F S256x256 .f32) : FVec F S1x256 .f32 := exp2 (subf (bm s) M)

/-- The sum of all powers of blocks `0, …, n`, relative to `M`. -/
def tot (M : FVec F S1x256 .f32) (S : ℕ → FVec F S256x256 .f32) : ℕ → FVec F S1x256 .f32
  | 0 => addf (broadcast S1x256 (Scalar.ofBits .f32 0x00000000#32)) (mulf (alph M (S 0)) (bs (S 0)))
  | n + 1 => addf (tot M S n) (mulf (alph M (S (n + 1))) (bs (S (n + 1))))

/-- The weight a block's powers take: its rescaling times `num` over the row's sum. -/
def wgt (num : FVec F S1x256 .f32) (S : ℕ → FVec F S256x256 .f32) (i t : ℕ) : FVec F S1x256 .bf16 :=
  truncf .bf16 (mulf (alph (mall S i) (S t)) (divf num (tot (mall S i) S i))) bitsLt_bf16_f32

/-- Block `t` of the weighted probabilities of one half. -/
def wp (num : FVec F S1x256 .f32) (S : ℕ → FVec F S256x256 .f32) (i t : ℕ) : FVec F S256x256 .bf16 :=
  mulf (truncf .bf16 (be (S t)) bitsLt_bf16_f32) (broadcastTo S256x256 (wgt num S i t) broadcasts_S1x256_S256x256)

/-- Block `t` of the difference of the two halves' probabilities. -/
def pb (lam : FVec F S1x1 .f32) (S0 S1 : ℕ → FVec F S256x256 .f32) (i t : ℕ) : FVec F S256x256 .bf16 :=
  subf (wp (broadcast S1x256 (Scalar.ofBits .f32 0x3F800000#32)) S0 i t)
    (wp (broadcastTo S1x256 lam broadcasts_S1x1_S1x256) S1 i t)

/-- The values (transposed) of the first `i + 1` key blocks times the stacked probability blocks. -/
def pv (i : ℕ) (vt : FVec F S256x2048 .bf16) (P : ℕ → FVec F S256x256 .bf16) : FVec F S256x256 .f32 :=
  match i with
  | 0 => matmul dot_S256x256_S256x256_S256x256_1_0_0_1_n_n none
      (extractStridedSlice S256x256 ![0, 0] vt slices_S256x2048_o0_0_S256x256) (P 0) (constant S256x256 .f32 0x00000000#32)
  | 1 => matmul dot_S256x512_S512x256_S256x256_1_0_0_1_n_n none
      (extractStridedSlice S256x512 ![0, 0] vt slices_S256x2048_o0_0_S256x512)
      (concatenate S512x256 0 [⟨S256x256, P 0⟩, ⟨S256x256, P 1⟩] concatenates_S256x256_S256x256_S512x256_d0)
      (constant S256x256 .f32 0x00000000#32)
  | 2 => matmul dot_S256x768_S768x256_S256x256_1_0_0_1_n_n none
      (extractStridedSlice S256x768 ![0, 0] vt slices_S256x2048_o0_0_S256x768)
      (concatenate S768x256 0 [⟨S256x256, P 0⟩, ⟨S256x256, P 1⟩, ⟨S256x256, P 2⟩]
        concatenates_S256x256_S256x256_S256x256_S768x256_d0)
      (constant S256x256 .f32 0x00000000#32)
  | 3 => matmul dot_S256x1024_S1024x256_S256x256_1_0_0_1_n_n none
      (extractStridedSlice S256x1024 ![0, 0] vt slices_S256x2048_o0_0_S256x1024)
      (concatenate S1024x256 0 [⟨S256x256, P 0⟩, ⟨S256x256, P 1⟩, ⟨S256x256, P 2⟩, ⟨S256x256, P 3⟩]
        concatenates_S256x256_S256x256_S256x256_S256x256_S1024x256_d0)
      (constant S256x256 .f32 0x00000000#32)
  | 4 => matmul dot_S256x1280_S1280x256_S256x256_1_0_0_1_n_n none
      (extractStridedSlice S256x1280 ![0, 0] vt slices_S256x2048_o0_0_S256x1280)
      (concatenate S1280x256 0 [⟨S256x256, P 0⟩, ⟨S256x256, P 1⟩, ⟨S256x256, P 2⟩, ⟨S256x256, P 3⟩, ⟨S256x256, P 4⟩]
        concatenates_S256x256_S256x256_S256x256_S256x256_S256x256_S1280x256_d0)
      (constant S256x256 .f32 0x00000000#32)
  | 5 => matmul dot_S256x1536_S1536x256_S256x256_1_0_0_1_n_n none
      (extractStridedSlice S256x1536 ![0, 0] vt slices_S256x2048_o0_0_S256x1536)
      (concatenate S1536x256 0 [⟨S256x256, P 0⟩, ⟨S256x256, P 1⟩, ⟨S256x256, P 2⟩, ⟨S256x256, P 3⟩, ⟨S256x256, P 4⟩,
        ⟨S256x256, P 5⟩] concatenates_S256x256_S256x256_S256x256_S256x256_S256x256_S256x256_S1536x256_d0)
      (constant S256x256 .f32 0x00000000#32)
  | 6 => matmul dot_S256x1792_S1792x256_S256x256_1_0_0_1_n_n none
      (extractStridedSlice S256x1792 ![0, 0] vt slices_S256x2048_o0_0_S256x1792)
      (concatenate S1792x256 0 [⟨S256x256, P 0⟩, ⟨S256x256, P 1⟩, ⟨S256x256, P 2⟩, ⟨S256x256, P 3⟩, ⟨S256x256, P 4⟩,
        ⟨S256x256, P 5⟩, ⟨S256x256, P 6⟩]
        concatenates_S256x256_S256x256_S256x256_S256x256_S256x256_S256x256_S256x256_S1792x256_d0)
      (constant S256x256 .f32 0x00000000#32)
  | _ => matmul dot_S256x2048_S2048x256_S256x256_1_0_0_1_n_n none vt
      (concatenate S2048x256 0 [⟨S256x256, P 0⟩, ⟨S256x256, P 1⟩, ⟨S256x256, P 2⟩, ⟨S256x256, P 3⟩, ⟨S256x256, P 4⟩,
        ⟨S256x256, P 5⟩, ⟨S256x256, P 6⟩, ⟨S256x256, P 7⟩]
        concatenates_S256x256_S256x256_S256x256_S256x256_S256x256_S256x256_S256x256_S256x256_S2048x256_d0)
      (constant S256x256 .f32 0x00000000#32)

/-- The root-mean-square norm of the rows of `o`, times the given row of weights. -/
def nrm (o : FVec F S256x256 .f32) (w : FVec F S1x256 .f32) : FVec F S256x256 .f32 :=
  mulf (mulf o (broadcastTo S256x256 (rsqrt (addf (divf (shapeCast S256x1
      (multiReduction .add [1] S256 (mulf o o) 0x00000000#32 reduces_S256x256_S256_2 (.inl rfl) rfl)
      shapeCasts_S256_S256x1) (broadcast S256x1 (Scalar.ofBits .f32 0x43800000#32)))
      (broadcast S256x1 (Scalar.ofBits .f32 0x358637BD#32)))) broadcasts_S256x1_S256x256))
    (broadcastTo S256x256 w broadcasts_S1x256_S256x256)

/-- Half the gate. -/
def hg (g : Vec F S1x256x256 .bf16) : FVec F S256x256 .f32 :=
  mulf (broadcast S256x256 (Scalar.ofBits .f32 0x3F000000#32))
    (extf .f32 (shapeCast S256x256 g shapeCasts_S1x256x256_S256x256) bitsLt_bf16_f32)

/-- The tile as stored: the normed output times the gate's `silu`, written by a hyperbolic tangent. -/
def fin (o : FVec F S256x256 .f32) (w : FVec F S1x256 .f32) (g : Vec F S1x256x256 .bf16) : FVec F S1x256x256 .bf16 :=
  shapeCast S1x256x256 (truncf .bf16 (mulf (nrm o w) (addf (hg g) (mulf (hg g) (tanh (hg g))))) bitsLt_bf16_f32)
    shapeCasts_S256x256_S1x256x256

/-- Query tile `i` from its blocks: the queries `q`, the two families of key blocks, the transposed values, the gate. -/
def tile (i : ℕ) (q : Vec F S1x256x256 .bf16) (k0 k1 : ℕ → Vec F S1x256x128 .bf16) (vt : FVec F S256x2048 .bf16)
    (g : Vec F S1x256x256 .bf16) (lam : FVec F S1x1 .f32) (w : FVec F S1x256 .f32) : FVec F S1x256x256 .bf16 :=
  fin (transpose S256x256 [1, 0] (pv i vt (pb lam (scs i k0 (qh0 q)) (scs i k1 (qh1 q)) i))
    transposes_S256x256_p1_0_S256x256) w g

/-- The rectangle of key block `t` (taken modulo 8) at columns `c`, …, `c + 127` of the window. -/
theorem kin (t c : ℕ) (hc : c + 128 ≤ 512) :
    ∀ a, (![0, 256 * (t % 8), c] : Fin 3 → Nat) a + S1x256x128.size a ≤ S1x2048x512.size a := by
  intro a; fin_cases a
  · show 0 + 1 ≤ 1; omega
  · show 256 * (t % 8) + 256 ≤ 2048; omega
  · show c + 128 ≤ 512; omega

/-- The rectangle of query tile `t` (taken modulo 8) at columns `c`, …, `c + 255` of the window. -/
theorem qin (t c : ℕ) (hc : c + 256 ≤ 512) :
    ∀ a, (![0, 256 * (t % 8), c] : Fin 3 → Nat) a + S1x256x256.size a ≤ S1x2048x512.size a := by
  intro a; fin_cases a
  · show 0 + 1 ≤ 1; omega
  · show 256 * (t % 8) + 256 ≤ 2048; omega
  · show c + 256 ≤ 512; omega

/-- Key block `t` at column `c` of the key window. -/
def kb (x : Vec F S1x2048x512 .bf16) (c : ℕ) (hc : c + 128 ≤ 512) (t : ℕ) : Vec F S1x256x128 .bf16 :=
  View.ld x (Rect.unit (s := S1x2048x512) ![0, 256 * (t % 8), c] S1x256x128.size (kin t c hc))

/-- Row tile `t`, columns from `c`, of a window. -/
def qb (x : Vec F S1x2048x512 .bf16) (c : ℕ) (hc : c + 256 ≤ 512) (t : ℕ) : Vec F S1x256x256 .bf16 :=
  View.ld x (Rect.unit (s := S1x2048x512) ![0, 256 * (t % 8), c] S1x256x256.size (qin t c hc))

end Cert.KernelIdeal.Attn

end
-- ==== Proof.Pieces.lean ====
/- The kernel body's sixteen stores are the sixteen query tiles: two heads, eight tiles each, one family. -/
module

public import proofs.«01_k».proof.Proof.Tile

@[expose] public section

set_option maxRecDepth 65536

noncomputable section

namespace Cert.KernelIdeal.Attn

open Cert.KernelIdeal Cert.KernelIdeal.Gen Idealize.ShloMosaic Idealize.SL.Sem

variable {F : FTy → Type} [FloatOps F] [Named F]

/-- The transposed values of head `hd` of the window. -/
def vt (x2 : Vec F S1x2048x512 .bf16) (hd : ℕ) : FVec F S256x2048 .bf16 :=
  match hd with
  | 0 => k0_pay4 (View.ld x2 r0_2)
  | _ => k0_pay5 (View.ld x2 r0_3)

/-- The columns of a head of the window begin at 0 or 256. -/
theorem hcol (hd : Fin 2) (a b : ℕ) (h : a + b ≤ 256) : 256 * (hd : ℕ) + a + b ≤ 512 := by
  have := hd.isLt; omega

/-- Query tile `i` of head `hd`, from the windows. -/
def piece (x0 x1 x2 x3 : Vec F S1x2048x512 .bf16) (x4 x5 x6 x7 : Vec F S1x128 .f32) (x8 : Vec F S1x256 .f32)
    (hd : Fin 2) (i : ℕ) : FVec F S1x256x256 .bf16 :=
  tile i (qb x0 (256 * (hd : ℕ) + 0) (hcol hd 0 256 (by decide)) i)
    (kb x1 (256 * (hd : ℕ) + 0) (hcol hd 0 128 (by decide))) (kb x1 (256 * (hd : ℕ) + 128) (hcol hd 128 128 (by decide)))
    (vt x2 hd) (qb x3 (256 * (hd : ℕ) + 0) (hcol hd 0 256 (by decide)) i)
    (k0_pay2 (View.ld x4 r0_0) (View.ld x5 r0_0) (View.ld x6 r0_0) (View.ld x7 r0_0))
    (k0_pay3 (View.ld x8 r0_1))

variable (x0 x1 x2 x3 : Vec F S1x2048x512 .bf16) (x4 x5 x6 x7 : Vec F S1x128 .f32) (x8 : Vec F S1x256 .f32)

/-- The store of query tile `i` of head `hd`. -/
def st (hd : Fin 2) (i : ℕ) : View.Piece (Elt F) S1x2048x512 .bf16 :=
  ⟨Rect.unit (s := S1x2048x512) ![0, 256 * (i % 8), 256 * (hd : ℕ) + 0] S1x256x256.size (qin i _ (hcol hd 0 256 (by decide))),
    piece x0 x1 x2 x3 x4 x5 x6 x7 x8 hd i⟩

set_option maxHeartbeats 4000000 in
/-- What the kernel body leaves in the output window: its sixteen tiles, each the one function of its blocks. -/
theorem out_eq : out0_9 x0 x1 x2 x3 x4 x5 x6 x7 x8
    = View.canon (([(1, 0), (1, 7), (1, 6), (1, 5), (1, 4), (1, 3), (1, 2), (1, 1),
        (0, 0), (0, 7), (0, 6), (0, 5), (0, 4), (0, 3), (0, 2), (0, 1)] : List (Fin 2 × ℕ)).map
        fun p => st x0 x1 x2 x3 x4 x5 x6 x7 x8 p.1 p.2) := by
  unfold out0_9
  simp only [List.map_cons, List.map_nil]
  refine congrArg View.canon ?_
  iterate 16 refine congrArg₂ List.cons rfl ?_
  rfl

end Cert.KernelIdeal.Attn

end
-- ==== Proof.Soft.lean ====
/- Causal softmax on the extended reals: a row's weights are real, whatever subset of the row's maximum they are taken
   relative to; the number both programs compute at every index. -/
module

public import Idealize.ShloMosaic.Lib.Pointwise
public import Idealize.ShloMosaic.Lib.WordCmp

@[expose] public section

set_option maxRecDepth 16384

noncomputable section

namespace Cert.Attn

open Idealize.ShloMosaic Idealize.ShloMosaic.Pointwise

/-- The maximum of finitely many entries none of which is `⊤` and one of which is not `⊥` is a real number. -/
theorem real_max {n : ℕ} (f : Fin n → EReal) (ht : ∀ k, f k ≠ ⊤) (k : Fin n) (hb : f k ≠ ⊥) :
    ∃ μ : ℝ, Finset.univ.fold max ⊥ f = (μ : EReal) := by
  have h1 : Finset.univ.fold max ⊥ f ≠ ⊤ :=
    ne_of_lt ((Finset.fold_max_lt _).2 ⟨bot_lt_top, fun k _ => lt_top_iff_ne_top.2 (ht k)⟩)
  have h2 : Finset.univ.fold max ⊥ f ≠ ⊥ :=
    ne_of_gt ((Finset.lt_fold_max _).2 (Or.inr ⟨k, Finset.mem_univ k, bot_lt_iff_ne_bot.2 hb⟩))
  exact ⟨_, (EReal.coe_toReal h1 h2).symm⟩

/-- A finite sum of reals, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `256 (n + 1)` indices is the sum over the first `256 n` and over one more block. -/
theorem sum_block (w : ℕ → ℝ) (n : ℕ) : ∑ j ∈ Finset.range (256 * (n + 1)), w j
    = ∑ j ∈ Finset.range (256 * n), w j + ∑ k : Fin 256, w (256 * n + k) := by
  rw [Nat.mul_succ, Finset.sum_range_add, Finset.sum_range (fun k => w (256 * n + k))]

/-- A row's score at a key: the logit up to the query, nothing after it. -/
def score (y : ℕ → ℝ) (q key : ℕ) : EReal := if key ≤ q then (y key : EReal) else ⊥

/-- A row's unnormalised weight at a key, in base `b`. -/
def wt (b : ℝ) (y : ℕ → ℝ) (q key : ℕ) : ℝ := if key ≤ q then b ^ y key else 0

theorem wt_nonneg (b : ℝ) (hb : 0 < b) (y : ℕ → ℝ) (q key : ℕ) : 0 ≤ wt b y q key := by
  unfold wt; split
  · exact (Real.rpow_pos_of_pos hb _).le
  · exact le_rfl

/-- The row's weights add up to a positive number over any keys from the first. -/
theorem sum_wt_pos (b : ℝ) (hb : 0 < b) (y : ℕ → ℝ) (q n : ℕ) (hn : 0 < n) : 0 < ∑ j ∈ Finset.range n, wt b y q j :=
  Finset.sum_pos' (fun j _ => wt_nonneg b hb y q j)
    ⟨0, Finset.mem_range.2 hn, by rw [wt, if_pos (Nat.zero_le q)]; exact Real.rpow_pos_of_pos hb _⟩

/-- The weights past the query add nothing. -/
theorem sum_wt_extend (b : ℝ) (y : ℕ → ℝ) (q n N : ℕ) (hq : q < n) (hN : n ≤ N) :
    ∑ j ∈ Finset.range n, wt b y q j = ∑ j ∈ Finset.range N, wt b y q j := by
  refine Finset.sum_subset (Finset.range_mono hN) fun j _ hj => ?_
  have : n ≤ j := by simpa using hj
  rw [wt, if_neg (by omega)]

/-- The causal softmax of a row of 2048 logits. -/
def soft (x : ℕ → ℝ) (q key : ℕ) : ℝ :=
  wt (Real.exp 1) x q key / ∑ j ∈ Finset.range 2048, wt (Real.exp 1) x q j

/-- Past the query the softmax is zero. -/
theorem soft_of_lt (x : ℕ → ℝ) (q key : ℕ) (h : q < key) : soft x q key = 0 := by
  rw [soft, wt, if_neg (by omega), zero_div]

/-- Weights in base two of the logits over `log 2` are weights in base e of the logits. -/
theorem wt_two (x : ℕ → ℝ) (q key : ℕ) : wt 2 (fun j => x j * (Real.log 2)⁻¹) q key = wt (Real.exp 1) x q key := by
  unfold wt; split
  · rw [Real.rpow_def_of_pos (by norm_num), Real.exp_one_rpow]
    congr 1
    have : Real.log 2 ≠ 0 := (Real.log_pos (by norm_num)).ne'
    field_simp
  · rfl

/-- A power of two of a score relative to any real. -/
theorem exp2_score (y : ℕ → ℝ) (q key : ℕ) (μ : ℝ) :
    Ideal.exp2 (score y q key - (μ : EReal)) = ((wt 2 y q key * (2 : ℝ) ^ (-μ) : ℝ) : EReal) := by
  unfold score wt; split
  · rw [← EReal.coe_sub, Ideal.exp2_coe, Real.rpow_eq_pow, ← Real.rpow_add (by norm_num), sub_eq_add_neg]
  · simp

/-- The exponential of a score relative to any real. -/
theorem exp_score (y : ℕ → ℝ) (q key : ℕ) (μ : ℝ) :
    Ideal.exp (score y q key - (μ : EReal)) = ((wt (Real.exp 1) y q key * Real.exp (-μ) : ℝ) : EReal) := by
  unfold score wt; split
  · rw [← EReal.coe_sub, Ideal.exp_coe, Real.exp_one_rpow, ← Real.exp_add, sub_eq_add_neg]
  · simp

theorem score_ne_top (y : ℕ → ℝ) (q key : ℕ) : score y q key ≠ ⊤ := by
  unfold score; split <;> simp

theorem score_ne_bot (y : ℕ → ℝ) (q key : ℕ) (h : key ≤ q) : score y q key ≠ ⊥ := by
  rw [score, if_pos h]; simp

/-- Division by a nonzero real, in the extended reals. -/
theorem div_real (x : EReal) (t : ℝ) (ht : t ≠ 0) : Ideal.div x (t : EReal) = x * ((t⁻¹ : ℝ) : EReal) := by
  rw [Ideal.div, if_neg (by simpa using ht), EReal.coe_inv]

/-- A choice by a signed comparison of two small words is a choice by the numbers. -/
theorem select_le {A : Type} (a b : ℕ) (ha : a < 2 ^ 31) (hb : b < 2 ^ 31) (x y : A) :
    Scalar.select (IntOp.cmpi .sle (BitVec.ofNat 32 a) (BitVec.ofNat 32 b)) x y = if a ≤ b then x else y := by
  unfold Scalar.select
  exact if_congr (WordCmp.cmpi_sle_ofNat_eq_one_iff ha hb) rfl rfl

/-- The softmax as the reference forms it: exponentials relative to the row's maximum over their sum. -/
theorem soft_ref (x : ℕ → ℝ) (q : ℕ) (key : Fin 2048) (M : EReal)
    (hM : M = Finset.univ.fold max ⊥ fun k : Fin 2048 => score x q k) :
    Ideal.div (Ideal.exp (score x q key - M)) (∑ k : Fin 2048, Ideal.exp (score x q k - M)) = (soft x q key : EReal) := by
  obtain ⟨μ, hμ⟩ := real_max (fun k : Fin 2048 => score x q k) (fun k => score_ne_top x q k) 0
    (score_ne_bot x q _ (Nat.zero_le q))
  rw [hM, hμ]
  simp only [exp_score]
  have hp := sum_wt_pos (Real.exp 1) (Real.exp_pos 1) x q 2048 (by norm_num)
  rw [← coe_sum, ← Finset.sum_mul, ← Finset.sum_range (fun k => wt (Real.exp 1) x q k),
    div_real _ _ (mul_pos hp (Real.exp_pos _)).ne', ← EReal.coe_mul, soft]
  congr 1
  have := Real.exp_ne_zero (-μ)
  field_simp

end Cert.Attn

end
-- ==== Proof.Column.lean ====
/- One query's column of a tile: the per-block softmax statistics, rescaled to the row's maximum and divided by the
   row's sum, are the row's causal softmax; the stacked products with the values are one sum over all keys. -/
module

public import proofs.«01_k».proof.Proof.Tile
public import proofs.«01_k».proof.Proof.Soft

@[expose] public section

set_option maxRecDepth 16384

noncomputable section

namespace Cert.KernelIdeal.Attn

open Cert.KernelIdeal Cert.KernelIdeal.Gen Cert.Attn Idealize.ShloMosaic Idealize.ShloMosaic.Pointwise Idealize.SL.Sem

/-- The block maximum, read at a query. -/
theorem bm_read (s : FVec Ideal S256x256 .f32) (r : Fin 256) :
    bm s (ix2 0 r) = Finset.univ.fold max (⊥ : EReal) fun k : Fin 256 => s (ix2 k r) := by
  pointwise [bm]
  congr 1

/-- A block's powers, read at a key and a query. -/
theorem be_read (s : FVec Ideal S256x256 .f32) (k r : Fin 256) :
    be s (ix2 k r) = Ideal.exp2 (s (ix2 k r) - bm s (ix2 0 r)) := by
  pointwise [be]
  rfl

/-- The block sum, read at a query. -/
theorem bs_read (s : FVec Ideal S256x256 .f32) (r : Fin 256) :
    bs s (ix2 0 r) = ∑ k : Fin 256, be s (ix2 k r) := by
  pointwise [bs]

/-- The running maximum of one more block, read at a query. -/
theorem mall_read (S : ℕ → FVec Ideal S256x256 .f32) (n : ℕ) (r : Fin 256) :
    mall S (n + 1) (ix2 0 r) = max (mall S n (ix2 0 r)) (bm (S (n + 1)) (ix2 0 r)) := by
  show maximumf (mall S n) (bm (S (n + 1))) (ix2 0 r) = _
  pointwise

/-- The rescaling, read at a query. -/
theorem alph_read (M : FVec Ideal S1x256 .f32) (s : FVec Ideal S256x256 .f32) (r : Fin 256) :
    alph M s (ix2 0 r) = Ideal.exp2 (bm s (ix2 0 r) - M (ix2 0 r)) := by
  pointwise [alph]
  rfl

/-- The first block's share of the row's sum. -/
theorem tot_read_zero (M : FVec Ideal S1x256 .f32) (S : ℕ → FVec Ideal S256x256 .f32) (r : Fin 256) :
    tot M S 0 (ix2 0 r) = alph M (S 0) (ix2 0 r) * bs (S 0) (ix2 0 r) := by
  pointwise [tot]

/-- One more block's share of the row's sum. -/
theorem tot_read_succ (M : FVec Ideal S1x256 .f32) (S : ℕ → FVec Ideal S256x256 .f32) (n : ℕ) (r : Fin 256) :
    tot M S (n + 1) (ix2 0 r) = tot M S n (ix2 0 r) + alph M (S (n + 1)) (ix2 0 r) * bs (S (n + 1)) (ix2 0 r) := by
  show addf (tot M S n) (mulf (alph M (S (n + 1))) (bs (S (n + 1)))) (ix2 0 r) = _
  pointwise

/-- A weighted probability, read at a key and a query. -/
theorem wp_read (num : FVec Ideal S1x256 .f32) (S : ℕ → FVec Ideal S256x256 .f32) (i t : ℕ) (k r : Fin 256) :
    wp num S i t (ix2 k r) = be (S t) (ix2 k r) *
      (alph (mall S i) (S t) (ix2 0 r) * Ideal.div (num (ix2 0 r)) (tot (mall S i) S i (ix2 0 r))) := by
  pointwise [wp, wgt]

/-- Relative to one real, then moved to another. -/
theorem pow_shift (b μ : ℝ) : (2 : ℝ) ^ (-b) * 2 ^ (b - μ) = 2 ^ (-μ) := by
  rw [← Real.rpow_add (by norm_num), show -b + (b - μ) = -μ by ring]

section
variable {S : ℕ → FVec Ideal S256x256 .f32} {y : ℕ → ℝ} {i : ℕ} {r : Fin 256}
  (hS : ∀ t, t ≤ i → ∀ k : Fin 256, S t (ix2 k r) = score y (256 * i + r) (256 * t + k))
include hS

/-- Each block's maximum is a real: its first key is at most the query. -/
theorem bm_real (t : ℕ) (ht : t ≤ i) : ∃ μ : ℝ, bm (S t) (ix2 0 r) = (μ : EReal) := by
  rw [bm_read]
  refine real_max _ (fun k => ?_) 0 ?_
  · rw [hS t ht]; exact score_ne_top _ _ _
  · rw [hS t ht]; exact score_ne_bot _ _ _ (by show 256 * t + 0 ≤ _; omega)

/-- The maximum over the blocks is a real. -/
theorem mall_real (n : ℕ) (hn : n ≤ i) : ∃ M : ℝ, mall S n (ix2 0 r) = (M : EReal) := by
  induction n with
  | zero => exact bm_real hS 0 hn
  | succ n ih =>
    obtain ⟨a, ha⟩ := ih (by omega)
    obtain ⟨b, hb⟩ := bm_real hS (n + 1) hn
    exact ⟨max a b, by rw [mall_read, ha, hb]; exact (EReal.coe_strictMono.monotone.map_max).symm⟩

/-- A block's contribution to the row's sum, relative to any real `M`: the block's weights over `2 ^ M`. -/
theorem share (M : FVec Ideal S1x256 .f32) (μ : ℝ) (hM : M (ix2 0 r) = (μ : EReal)) (t : ℕ) (ht : t ≤ i) :
    alph M (S t) (ix2 0 r) * bs (S t) (ix2 0 r)
      = ((2 ^ (-μ) * ∑ k : Fin 256, wt 2 y (256 * i + r) (256 * t + k) : ℝ) : EReal) := by
  obtain ⟨b, hb⟩ := bm_real hS t ht
  rw [alph_read, bs_read, hM]
  simp only [be_read, hb, hS t ht, exp2_score]
  rw [← coe_sum, ← EReal.coe_sub, Ideal.exp2_coe, Real.rpow_eq_pow, ← EReal.coe_mul, ← Finset.sum_mul]
  refine congrArg Real.toEReal ?_
  rw [← pow_shift b μ]; ring

/-- The row's sum over the first blocks. -/
theorem tot_eq (M : FVec Ideal S1x256 .f32) (μ : ℝ) (hM : M (ix2 0 r) = (μ : EReal)) (n : ℕ) (hn : n ≤ i) :
    tot M S n (ix2 0 r) = ((2 ^ (-μ) * ∑ j ∈ Finset.range (256 * (n + 1)), wt 2 y (256 * i + r) j : ℝ) : EReal) := by
  induction n with
  | zero => rw [tot_read_zero, share hS M μ hM 0 hn, sum_block]; simp
  | succ n ih =>
    rw [tot_read_succ, ih (by omega), share hS M μ hM (n + 1) hn, ← EReal.coe_add, ← mul_add,
      ← sum_block (wt 2 y (256 * i + r)) (n + 1)]

/-- A weighted probability is the numerator times the row's normalised weight. -/
theorem wp_eq (num : FVec Ideal S1x256 .f32) (hi : i ≤ 7) (t : ℕ) (ht : t ≤ i) (k : Fin 256) :
    wp num S i t (ix2 k r) = num (ix2 0 r)
      * ((wt 2 y (256 * i + r) (256 * t + k) / ∑ j ∈ Finset.range 2048, wt 2 y (256 * i + r) j : ℝ) : EReal) := by
  obtain ⟨b, hb⟩ := bm_real hS t ht
  obtain ⟨μ, hμ⟩ := mall_real hS i le_rfl
  have hr := r.isLt
  have hp := sum_wt_pos 2 (by norm_num) y (256 * i + r) 2048 (by norm_num)
  have h2 : (0 : ℝ) < 2 ^ (-μ) := Real.rpow_pos_of_pos (by norm_num) _
  rw [wp_read, tot_eq hS (mall S i) μ hμ i le_rfl,
    sum_wt_extend 2 y (256 * i + r) (256 * (i + 1)) 2048 (by omega) (by omega),
    div_real _ _ (mul_pos h2 hp).ne', alph_read, hb, hμ, be_read, hb, hS t ht, exp2_score, ← EReal.coe_sub,
    Ideal.exp2_coe, Real.rpow_eq_pow, mul_left_comm _ (num (ix2 0 r)), mul_left_comm _ (num (ix2 0 r)),
    ← EReal.coe_mul, ← EReal.coe_mul]
  refine congrArg (fun z : ℝ => num (ix2 0 r) * (z : EReal)) ?_
  rw [mul_inv, mul_assoc, ← mul_assoc ((2 : ℝ) ^ (-b)), pow_shift, ← mul_assoc ((2 : ℝ) ^ (-μ)), mul_inv_cancel₀ h2.ne', one_mul,
    div_eq_mul_inv]
end

/-- The mask's named constant is `⊥`. -/
theorem mask_bot : (Named.named (F := Ideal) κ "mask" (0xFEFFFFFF#32 : BitVec 32) : Ideal .f32) = (⊥ : EReal) := rfl

/-- The scores of query tile `i` at its query `r`: the logit up to the query, nothing after it, when the products of
    keys and scaled query are the reals `y`. -/
theorem scs_score (i : ℕ) (hi : i ≤ 7) (kb : ℕ → Vec Ideal S1x256x128 .bf16) (q : FVec Ideal S256x128 .bf16) (y : ℕ → ℝ)
    (r : Fin 256) (h : ∀ t, t ≤ i → ∀ k : Fin 256, sc (kb t) q (ix2 k r) = (y (256 * t + k) : EReal))
    (t : ℕ) (ht : t ≤ i) (k : Fin 256) : scs i kb q t (ix2 k r) = score y (256 * i + r) (256 * t + k) := by
  have hk := k.isLt
  have hr := r.isLt
  unfold scs score
  rcases Nat.lt_or_ge t i with hlt | hge
  · rw [show t.blt i = true from by simpa using hlt]
    simp only [cond_true]
    rw [h t ht, if_pos (by omega)]
  · obtain rfl : t = i := by omega
    rw [show t.blt t = false from Bool.eq_false_iff.2 (by rw [ne_eq, Nat.blt_eq]; omega)]
    simp only [cond_false]
    pointwise [msk]
    rw [h t le_rfl, show IntOp.addi (BitVec.ofNat 32 (k : ℕ)) 0#32 = BitVec.ofNat 32 (k : ℕ) from BitVec.add_zero _,
      select_le _ _ (by omega) (by omega), mask_bot]
    exact if_congr (by omega) rfl rfl

/-- The differential probability block, read at a key and a query. -/
theorem pb_read (lam : FVec Ideal S1x1 .f32) (S0 S1 : ℕ → FVec Ideal S256x256 .f32) (i t : ℕ) (k r : Fin 256) :
    pb lam S0 S1 i t (ix2 k r) = wp (broadcast S1x256 (Scalar.ofBits .f32 0x3F800000#32)) S0 i t (ix2 k r)
      - wp (broadcastTo S1x256 lam broadcasts_S1x1_S1x256) S1 i t (ix2 k r) := by
  pointwise [pb]

/-- The product with the values is one sum over all keys, when the blocks are a function `p` of the key that is zero past
    the last block. -/
theorem pv_eq (i : ℕ) (hi : i ≤ 7) (v : FVec Ideal S256x2048 .bf16) (P : ℕ → FVec Ideal S256x256 .bf16) (c r : Fin 256)
    (p : ℕ → EReal) (hP : ∀ t, t ≤ i → ∀ k : Fin 256, P t (ix2 k r) = p (256 * t + k))
    (hz : ∀ key, 256 * (i + 1) ≤ key → p key = 0) :
    pv i v P (ix2 c r) = ∑ key : Fin 2048, v (ix2 c key) * p key := by
  have key : ∀ n (hn : n ≤ 2048), 256 * (i + 1) = n → ∑ x : Fin n, v (ix2 c ⟨x, lt_of_lt_of_le x.isLt hn⟩) * p x
      = ∑ key : Fin 2048, v (ix2 c key) * p key := by
    intro n hn h
    let g : ℕ → EReal := fun j => if h : j < 2048 then v (ix2 c ⟨j, h⟩) * p j else 0
    have hg : ∀ m (hm : m ≤ 2048), ∑ x : Fin m, v (ix2 c ⟨x, lt_of_lt_of_le x.isLt hm⟩) * p x = ∑ j ∈ Finset.range m, g j := by
      intro m hm
      rw [Finset.sum_range]
      refine Finset.sum_congr rfl fun x _ => ?_
      rw [show g x = _ from dif_pos (lt_of_lt_of_le x.isLt hm)]
    refine (hg n hn).trans (Eq.trans ?_ (hg 2048 le_rfl).symm)
    refine Finset.sum_subset (Finset.range_mono hn) fun j hj hj' => ?_
    have h1 : n ≤ j := by simpa using hj'
    rw [show g j = _ from dif_pos (Finset.mem_range.1 hj), hz j (by omega), mul_zero]
  have piece : ∀ t, t ≤ i → ∀ (k : Fin 256) (x : ℕ), 256 * t + k = x → P t (ix2 k r) = p x :=
    fun t ht k x hx => (hP t ht k).trans (congrArg p hx)
  interval_cases i
  all_goals
    rw [← key _ (by norm_num) rfl]
    pointwise [pv]
  case «0» => exact Finset.sum_congr rfl fun x _ => congrArg _ (piece 0 le_rfl x x (by omega))
  case «1» =>
    refine (congrArg₂ (· + ·) (Finset.sum_congr rfl fun x _ => congrArg _ (piece 0 (by omega) x x (by omega)))
      (Finset.sum_congr rfl fun x _ => congrArg _ (piece 1 (by omega) x (256 + x) (by omega)))).trans ?_
    exact (Fin.sum_univ_add (a := 256) (b := 256) fun x : Fin 512 => v (ix2 c ⟨x, by omega⟩) * p x).symm
  all_goals
    refine Finset.sum_congr rfl fun x _ => congrArg _ ?_
    have hx := x.isLt
    split_ifs
    all_goals first
      | exact piece 0 (by omega) _ _ (by simp)
      | exact piece 1 (by omega) _ _ (by simp; omega)
      | exact piece 2 (by omega) _ _ (by simp; omega)
      | exact piece 3 (by omega) _ _ (by simp; omega)
      | exact piece 4 (by omega) _ _ (by simp; omega)
      | exact piece 5 (by omega) _ _ (by simp; omega)
      | exact piece 6 (by omega) _ _ (by simp; omega)
      | exact piece 7 (by omega) _ _ (by simp; omega)

end Cert.KernelIdeal.Attn

end
-- ==== Proof.Spec.lean ====
/- The number both programs compute at every index of the attention's result: differential attention of one head and
   one query, written over the projection's entries. -/
module

public import proofs.«01_k».proof.Proof.Soft

@[expose] public section

set_option maxRecDepth 16384

noncomputable section

namespace Cert.Attn

open Idealize.ShloMosaic Idealize.ShloMosaic.Pointwise

/-- The projection's shape. -/
abbrev SA : Shape := ⟨3, ![4, 2048, 16384]⟩

/-- The projection at a row and a column given as numbers. -/
def el (A : SA.Idx → EReal) (b : Fin 4) (s c : ℕ) : EReal :=
  A (ix3 b ⟨s % 2048, Nat.mod_lt _ (by decide)⟩ ⟨c % 16384, Nat.mod_lt _ (by decide)⟩)

/-- An entry of the projection is `el` at any numbers with its coordinates. -/
theorem el_eq (A : SA.Idx → EReal) (b : Fin 4) (s : Fin 2048) (c : Fin 16384) (s' c' : ℕ) (hs : (s : ℕ) = s')
    (hc : (c : ℕ) = c') : A (ix3 b s c) = el A b s' c' := by
  subst hs hc
  unfold el
  congr 2
  · exact Fin.ext (Nat.mod_eq_of_lt s.isLt).symm
  · exact Fin.ext (Nat.mod_eq_of_lt c.isLt).symm

/-- The queries and keys of the projection are real numbers, its gate is never `⊥`. -/
def Tame (A : SA.Idx → EReal) : Prop :=
  (∀ b s c, c < 8192 → ∃ x : ℝ, el A b s c = (x : EReal)) ∧ ∀ b s c, 12288 ≤ c → c < 16384 → el A b s c ≠ ⊥

/-- The product of query `s` and key `t` of half `j` of head `H`. -/
def qk (A : SA.Idx → EReal) (b : Fin 4) (H j s t : ℕ) : EReal :=
  ∑ d : Fin 128, el A b s (256 * H + 128 * j + d) * el A b t (4096 + 256 * H + 128 * j + d)

/-- The logit: the product over `√128`. -/
def lg (A : SA.Idx → EReal) (b : Fin 4) (H j s t : ℕ) : ℝ := (qk A b H j s t).toReal * (Real.sqrt 128)⁻¹

/-- The difference of the two halves' softmaxes, at a query and a key. -/
def dif (A : SA.Idx → EReal) (lam : EReal) (b : Fin 4) (H s key : ℕ) : EReal :=
  (soft (lg A b H 0 s) s key : EReal) - lam * (soft (lg A b H 1 s) s key : EReal)

/-- The head's output before the norm. -/
def att (A : SA.Idx → EReal) (lam : EReal) (b : Fin 4) (H s c : ℕ) : EReal :=
  ∑ key : Fin 2048, dif A lam b H s key * el A b key (8192 + 256 * H + c)

/-- A finite gate times its logistic. -/
def silu (g : EReal) : EReal := g * Ideal.div 1 (1 + Ideal.exp (-g))

/-- The result: the normed head output times the gate. -/
def res (A : SA.Idx → EReal) (lam w : EReal) (b : Fin 4) (H s c : ℕ) : EReal :=
  att A lam b H s c
    * Ideal.rsqrt (Ideal.div (∑ x : Fin 256, att A lam b H s x * att A lam b H s x) (Ideal.ofBits .f32 0x43800000#32)
        + Ideal.ofBits .f32 0x358637BD#32)
    * (w * Ideal.ofBits .f32 0x3F24FD5C#32) * silu (el A b s (12288 + 256 * H + c))

/-- `1/2` in the extended reals. -/
theorem half_f32 : Ideal.ofBits .f32 0x3F000000#32 = ((1 / 2 : ℝ) : EReal) := by
  simp [Ideal.ofBits, Ideal.ieee, -EReal.coe_mul]
  norm_num

/-- `128` in the extended reals. -/
theorem f32_128 : Ideal.ofBits .f32 0x43000000#32 = ((128 : ℝ) : EReal) := by
  simp [Ideal.ofBits, Ideal.ieee, -EReal.coe_mul]
  norm_num

/-- The gate by a hyperbolic tangent: with `h` half the gate, `h + h · tanh h` is the gate times its logistic. -/
theorem silu_tanh (g : EReal) (hg : g ≠ ⊥) :
    Ideal.ofBits .f32 0x3F000000#32 * g + Ideal.ofBits .f32 0x3F000000#32 * g * Ideal.tanh (Ideal.ofBits .f32 0x3F000000#32 * g)
      = silu g := by
  rw [half_f32, silu]
  induction g with
  | bot => exact absurd rfl hg
  | top =>
    rw [EReal.coe_mul_top_of_pos (by norm_num), Ideal.tanh_top, mul_one, EReal.top_add_top, EReal.neg_top, Ideal.exp_bot, add_zero]
    rw [show (1 : EReal) = ((1 : ℝ) : EReal) from rfl, div_real _ _ one_ne_zero, inv_one, ← EReal.coe_mul, one_mul]
    exact (EReal.top_mul_coe_of_pos one_pos).symm
  | coe g =>
    rw [← EReal.coe_neg, Ideal.exp_coe, ← EReal.coe_mul, Ideal.tanh_coe, show (1 : EReal) = ((1 : ℝ) : EReal) from rfl,
      ← EReal.coe_add, div_real _ _ (by positivity), ← EReal.coe_mul, ← EReal.coe_mul, ← EReal.coe_add, ← EReal.coe_mul]
    refine congrArg Real.toEReal ?_
    have h1 := Real.exp_pos (1 / 2 * g)
    have h2 : Real.exp (-g) = Real.exp (-(1 / 2 * g)) * Real.exp (-(1 / 2 * g)) := by rw [← Real.exp_add]; congr 1; ring
    rw [Real.tanh_eq_sinh_div_cosh, Real.sinh_eq, Real.cosh_eq, h2, Real.exp_neg]
    field_simp
    ring

/-- The product of a real query and a real key. -/
theorem qk_real (A : SA.Idx → EReal) (hA : Tame A) (b : Fin 4) (H j s t : ℕ) (hH : H < 16) (hj : j < 2) :
    ∃ x : ℝ, qk A b H j s t = (x : EReal) := by
  have hq : ∀ d : Fin 128, ∃ x : ℝ, el A b s (256 * H + 128 * j + d) * el A b t (4096 + 256 * H + 128 * j + d) = (x : EReal) := by
    intro d
    have hd := d.isLt
    obtain ⟨x, hx⟩ := hA.1 b s (256 * H + 128 * j + d) (by omega)
    obtain ⟨y, hy⟩ := hA.1 b t (4096 + 256 * H + 128 * j + d) (by omega)
    exact ⟨x * y, by rw [hx, hy, EReal.coe_mul]⟩
  choose f hf using hq
  exact ⟨∑ d, f d, by rw [coe_sum]; exact Finset.sum_congr rfl fun d _ => hf d⟩

/-- The logit as the reference forms it. -/
theorem qk_scaled (A : SA.Idx → EReal) (hA : Tame A) (b : Fin 4) (H j s t : ℕ) (hH : H < 16) (hj : j < 2) :
    qk A b H j s t * (((Real.sqrt 128)⁻¹ : ℝ) : EReal) = (lg A b H j s t : EReal) := by
  obtain ⟨x, hx⟩ := qk_real A hA b H j s t hH hj
  rw [lg, hx, EReal.toReal_coe, EReal.coe_mul]

/-- The logit over `log 2` as the kernel forms it: the factor on each query entry. -/
theorem qk_named (A : SA.Idx → EReal) (hA : Tame A) (b : Fin 4) (H j s t : ℕ) (hH : H < 16) (hj : j < 2) (κ : ℝ)
    (hκ : κ = (Real.sqrt 128)⁻¹ * (Real.log 2)⁻¹) :
    ∑ d : Fin 128, el A b t (4096 + 256 * H + 128 * j + d) * (el A b s (256 * H + 128 * j + d) * (κ : EReal))
      = ((lg A b H j s t * (Real.log 2)⁻¹ : ℝ) : EReal) := by
  have hq : ∀ d : Fin 128, ∃ x : ℝ, el A b s (256 * H + 128 * j + d) * el A b t (4096 + 256 * H + 128 * j + d) = (x : EReal)
      ∧ el A b t (4096 + 256 * H + 128 * j + d) * (el A b s (256 * H + 128 * j + d) * (κ : EReal)) = ((x * κ : ℝ) : EReal) := by
    intro d
    have hd := d.isLt
    obtain ⟨x, hx⟩ := hA.1 b s (256 * H + 128 * j + d) (by omega)
    obtain ⟨y, hy⟩ := hA.1 b t (4096 + 256 * H + 128 * j + d) (by omega)
    refine ⟨x * y, by rw [hx, hy, EReal.coe_mul], ?_⟩
    rw [hx, hy, ← EReal.coe_mul, ← EReal.coe_mul]
    exact congrArg Real.toEReal (by ring)
  choose f hf hk using hq
  have e : qk A b H j s t = ((∑ d, f d : ℝ) : EReal) := by
    rw [coe_sum]; exact Finset.sum_congr rfl fun d _ => hf d
  rw [lg, e, EReal.toReal_coe, Finset.sum_congr rfl fun d _ => hk d, ← coe_sum, ← Finset.sum_mul, hκ, mul_assoc]

end Cert.Attn

end
-- ==== Proof.TileValue.lean ====
/- A query tile's value: every entry is the specification's. -/
module

public import proofs.«01_k».proof.Proof.Column
public import proofs.«01_k».proof.Proof.Spec

@[expose] public section

set_option maxRecDepth 16384

noncomputable section

namespace Cert.KernelIdeal.Attn

open Cert.KernelIdeal Cert.KernelIdeal.Gen Cert.Attn Idealize.ShloMosaic Idealize.ShloMosaic.Pointwise Idealize.SL.Sem

/-- The query scale's named constant. -/
theorem qscale_real : (Named.named (F := Ideal) κ "qscale" (0x3E0293EE#32 : BitVec 32) : Ideal .f32)
    = ((((Real.sqrt 128)⁻¹ * (Real.log 2)⁻¹ : ℝ)) : EReal) := rfl

/-- The scores against the first half of the query tile. -/
theorem sc_read0 (k : Vec Ideal S1x256x128 .bf16) (q : Vec Ideal S1x256x256 .bf16) (a r : Fin 256) :
    sc k (qh0 q) (ix2 a r) = ∑ d : Fin 128, k (ix3 0 a d) * (q (ix3 0 r ⟨d, by omega⟩)
      * ((((Real.sqrt 128)⁻¹ * (Real.log 2)⁻¹ : ℝ)) : EReal)) := by
  pointwise [sc, qh0, qs]
  rfl

/-- The scores against the second half of the query tile. -/
theorem sc_read1 (k : Vec Ideal S1x256x128 .bf16) (q : Vec Ideal S1x256x256 .bf16) (a r : Fin 256) :
    sc k (qh1 q) (ix2 a r) = ∑ d : Fin 128, k (ix3 0 a d) * (q (ix3 0 r ⟨128 + d, by omega⟩)
      * ((((Real.sqrt 128)⁻¹ * (Real.log 2)⁻¹ : ℝ)) : EReal)) := by
  pointwise [sc, qh1, qs]
  rfl

/-- The numerator of the first half is one. -/
theorem one_read (r : Fin 256) : (broadcast S1x256 (Scalar.ofBits .f32 0x3F800000#32) : FVec Ideal S1x256 .f32) (ix2 0 r) = 1 := by
  pointwise

/-- The numerator of the second half. -/
theorem lam_read (lam : FVec Ideal S1x1 .f32) (r : Fin 256) :
    broadcastTo S1x256 lam broadcasts_S1x1_S1x256 (ix2 0 r) = lam (ix2 0 0) := by
  pointwise

/-- The finishing norm and gate, read at a query and a column. -/
theorem fin_read (S : FVec Ideal S256x256 .f32) (w : FVec Ideal S1x256 .f32) (g : Vec Ideal S1x256x256 .bf16) (a c : Fin 256) :
    fin (transpose S256x256 [1, 0] S transposes_S256x256_p1_0_S256x256) w g (ix3 0 a c) =
      S (ix2 c a) * Ideal.rsqrt (Ideal.div (∑ x : Fin 256, S (ix2 x a) * S (ix2 x a)) (Ideal.ofBits .f32 0x43800000#32)
          + Ideal.ofBits .f32 0x358637BD#32) * w (ix2 0 c)
        * (Ideal.ofBits .f32 0x3F000000#32 * g (ix3 0 a c) + Ideal.ofBits .f32 0x3F000000#32 * g (ix3 0 a c)
          * Ideal.tanh (Ideal.ofBits .f32 0x3F000000#32 * g (ix3 0 a c))) := by
  pointwise [fin, nrm, hg]

section
variable (A : SA.Idx → EReal) (hA : Tame A) (b : Fin 4) (H i : ℕ) (hH : H < 16) (hi : i ≤ 7)
  {q : Vec Ideal S1x256x256 .bf16} {k0 k1 : ℕ → Vec Ideal S1x256x128 .bf16} {v : FVec Ideal S256x2048 .bf16}
  {g : Vec Ideal S1x256x256 .bf16} {lam : FVec Ideal S1x1 .f32} {w : FVec Ideal S1x256 .f32}
  (hq : ∀ a d : Fin 256, q (ix3 0 a d) = el A b (256 * i + a) (256 * H + d))
  (hk0 : ∀ t, t ≤ 7 → ∀ (a : Fin 256) (d : Fin 128), k0 t (ix3 0 a d) = el A b (256 * t + a) (4096 + 256 * H + d))
  (hk1 : ∀ t, t ≤ 7 → ∀ (a : Fin 256) (d : Fin 128), k1 t (ix3 0 a d) = el A b (256 * t + a) (4096 + 256 * H + 128 + d))
  (hv : ∀ (c : Fin 256) (key : Fin 2048), v (ix2 c key) = el A b key (8192 + 256 * H + c))
  (hg : ∀ a c : Fin 256, g (ix3 0 a c) = el A b (256 * i + a) (12288 + 256 * H + c))
include hA hH hi hq hk0 hk1

/-- Each half's scores are the causal logits over `log 2`. -/
theorem scs0 (r : Fin 256) (t : ℕ) (ht : t ≤ i) (k : Fin 256) : scs i k0 (qh0 q) t (ix2 k r)
    = score (fun j => lg A b H 0 (256 * i + r) j * (Real.log 2)⁻¹) (256 * i + r) (256 * t + k) := by
  refine scs_score i hi k0 (qh0 q) (fun j => lg A b H 0 (256 * i + r) j * (Real.log 2)⁻¹) r (fun t ht k => ?_) t ht k
  rw [sc_read0, ← qk_named A hA b H 0 (256 * i + r) (256 * t + k) hH (by omega) _ rfl]
  refine Finset.sum_congr rfl fun d _ => ?_
  rw [hq, hk0 t (by omega)]
  rfl

/-- The same for the second half. -/
theorem scs1 (r : Fin 256) (t : ℕ) (ht : t ≤ i) (k : Fin 256) : scs i k1 (qh1 q) t (ix2 k r)
    = score (fun j => lg A b H 1 (256 * i + r) j * (Real.log 2)⁻¹) (256 * i + r) (256 * t + k) := by
  refine scs_score i hi k1 (qh1 q) (fun j => lg A b H 1 (256 * i + r) j * (Real.log 2)⁻¹) r (fun t ht k => ?_) t ht k
  rw [sc_read1, ← qk_named A hA b H 1 (256 * i + r) (256 * t + k) hH (by omega) _ rfl]
  refine Finset.sum_congr rfl fun d _ => ?_
  rw [hq, hk1 t (by omega), show 256 * H + ((⟨128 + d, by omega⟩ : Fin 256) : ℕ) = 256 * H + 128 * 1 + d from by
    show 256 * H + (128 + d) = _; omega]

/-- A block of the difference of the halves' probabilities is the specification's, key by key. -/
theorem pb_dif (r : Fin 256) (t : ℕ) (ht : t ≤ i) (k : Fin 256) :
    pb lam (scs i k0 (qh0 q)) (scs i k1 (qh1 q)) i t (ix2 k r) = dif A (lam (ix2 0 0)) b H (256 * i + r) (256 * t + k) := by
  rw [pb_read, wp_eq (scs0 A hA b H i hH hi hq hk0 hk1 r) _ hi t ht k, wp_eq (scs1 A hA b H i hH hi hq hk0 hk1 r) _ hi t ht k,
    one_read, lam_read, one_mul]
  simp only [wt_two]
  rfl

include hv
/-- The product with the values, at a column and a query. -/
theorem pv_att (r c : Fin 256) : pv i v (pb lam (scs i k0 (qh0 q)) (scs i k1 (qh1 q)) i) (ix2 c r)
    = att A (lam (ix2 0 0)) b H (256 * i + r) c := by
  have hr := r.isLt
  rw [pv_eq i hi v _ c r (fun key => dif A (lam (ix2 0 0)) b H (256 * i + r) key)
    (fun t ht k => pb_dif A hA b H i hH hi hq hk0 hk1 r t ht k)
    (fun key hk => by
      show dif A _ b H _ key = 0
      rw [dif, soft_of_lt _ _ _ (by omega), soft_of_lt _ _ _ (by omega), EReal.coe_zero, mul_zero, sub_zero])]
  refine Finset.sum_congr rfl fun key _ => ?_
  rw [hv, mul_comm]

include hg
/-- Every entry of the tile is the specification's. -/
theorem tile_eq (wc : EReal) (r c : Fin 256) (hw : w (ix2 0 c) = wc * Ideal.ofBits .f32 0x3F24FD5C#32) :
    tile i q k0 k1 v g lam w (ix3 0 r c) = res A (lam (ix2 0 0)) wc b H (256 * i + r) c := by
  have hr := r.isLt
  have hc := c.isLt
  have hne : g (ix3 0 r c) ≠ ⊥ := by rw [hg]; exact hA.2 _ _ _ (by omega) (by omega)
  rw [tile, fin_read, silu_tanh _ hne, hw, hg]
  simp only [pv_att A hA b H i hH hi hq hk0 hk1 hv]
  rfl
end

end Cert.KernelIdeal.Attn

end
-- ==== Proof.KernelValue.lean ====
/- The kernel's result array, read at an index, is the specification's number: each grid point's windows are columns of
   the projection, its block of the result sixteen tiles of the specification. -/
module

public import proofs.«01_k».proof.Proof.Pieces
public import proofs.«01_k».proof.Proof.TileValue
public import proofs.«01_k».proof.Proof.Gen.KernelIdeal.Value
public import Idealize.ShloMosaic.Lib.Pipeline.ValueKit.Point

@[expose] public section

set_option maxRecDepth 16384

noncomputable section

namespace Cert.KernelIdeal.Attn

open Cert.KernelIdeal Cert.KernelIdeal.Gen Cert.Attn Idealize.ShloMosaic Idealize.ShloMosaic.TcCoe Idealize.ShloMosaic.Pointwise Idealize.SL.Sem
open Idealize.ShloMosaic.Pipeline (Dat)

variable (m : (ℓ : Loc nD τ sig) → Buf (Elt Ideal) ℓ)

/-- The projection, as launched. -/
abbrev proj (c : Dev nD) : SA.Idx → EReal := m ((c : Thread nD τ).loc main_arg0)

/-- The factor of the second softmax, from the four launched vectors. -/
def lamOf (l1 l2 l3 l4 : Vec Ideal S1x128 .f32) : EReal :=
  Ideal.exp (∑ x : Fin 128, l1 (ix2 0 x) * l2 (ix2 0 x)) - Ideal.exp (∑ x : Fin 128, l3 (ix2 0 x) * l4 (ix2 0 x))
    + Ideal.ofBits .f32 0x3EB60549#32

/-- The grid: four batches times eight pairs of heads; each window's block at a point. -/
theorem idx : ∀ t : Fin cfg0.N, win0_0.index t = ![t.val / 8, 0, t.val % 8] ∧ win0_1.index t = ![t.val / 8, 0, 8 + t.val % 8]
    ∧ win0_2.index t = ![t.val / 8, 0, 16 + t.val % 8] ∧ win0_3.index t = ![t.val / 8, 0, 24 + t.val % 8]
    ∧ win0_4.index t = ![0, 0] ∧ win0_5.index t = ![0, 0] ∧ win0_6.index t = ![0, 0] ∧ win0_7.index t = ![0, 0]
    ∧ win0_8.index t = ![0, 0] ∧ win0_9.index t = ![t.val / 8, 0, t.val % 8] :=
  (by decide +kernel : ∀ t : Fin grid0.N, _)

/-- The batch of a grid point. -/
def bat (t : Fin cfg0.N) : Fin 4 := ⟨t.val / 8, by have : t.val < 32 := lt_of_lt_of_eq t.isLt N_0; omega⟩

/-- The query window. -/
theorem blk0 (c : Dev nD) (t : Fin cfg0.N) (s : Fin 2048) (x : Fin 512) :
    (iblk m c 0 t : Vec Ideal S1x2048x512 .bf16) (ix3 0 s x) = el (proj m c) (bat t) s (512 * (t.val % 8) + x) := by
  have ht : t.val < 32 := lt_of_lt_of_eq t.isLt N_0
  refine Eq.trans ?_ (el_eq (proj m c) (bat t) s ⟨512 * (t.val % 8) + x, by omega⟩ _ _ rfl rfl)
  blk_ext! [iblk, V, idx t, bat]

/-- The key window. -/
theorem blk1 (c : Dev nD) (t : Fin cfg0.N) (s : Fin 2048) (x : Fin 512) :
    (iblk m c 1 t : Vec Ideal S1x2048x512 .bf16) (ix3 0 s x) = el (proj m c) (bat t) s (4096 + 512 * (t.val % 8) + x) := by
  have ht : t.val < 32 := lt_of_lt_of_eq t.isLt N_0
  refine Eq.trans ?_ (el_eq (proj m c) (bat t) s ⟨4096 + 512 * (t.val % 8) + x, by omega⟩ _ _ rfl rfl)
  blk_ext! [iblk, V, idx t, bat]

/-- The value window. -/
theorem blk2 (c : Dev nD) (t : Fin cfg0.N) (s : Fin 2048) (x : Fin 512) :
    (iblk m c 2 t : Vec Ideal S1x2048x512 .bf16) (ix3 0 s x) = el (proj m c) (bat t) s (8192 + 512 * (t.val % 8) + x) := by
  have ht : t.val < 32 := lt_of_lt_of_eq t.isLt N_0
  refine Eq.trans ?_ (el_eq (proj m c) (bat t) s ⟨8192 + 512 * (t.val % 8) + x, by omega⟩ _ _ rfl rfl)
  blk_ext! [iblk, V, idx t, bat]

/-- The gate window. -/
theorem blk3 (c : Dev nD) (t : Fin cfg0.N) (s : Fin 2048) (x : Fin 512) :
    (iblk m c 3 t : Vec Ideal S1x2048x512 .bf16) (ix3 0 s x) = el (proj m c) (bat t) s (12288 + 512 * (t.val % 8) + x) := by
  have ht : t.val < 32 := lt_of_lt_of_eq t.isLt N_0
  refine Eq.trans ?_ (el_eq (proj m c) (bat t) s ⟨12288 + 512 * (t.val % 8) + x, by omega⟩ _ _ rfl rfl)
  blk_ext! [iblk, V, idx t, bat]

/-- The first vector of the factor, whole at every point. -/
theorem blk4 (c : Dev nD) (t : Fin cfg0.N) (x : Fin 128) :
    (iblk m c 4 t : Vec Ideal S1x128 .f32) (ix2 0 x) = m ((c : Thread nD τ).loc main_arg1) (ix2 0 x) := by
  blk_ext! [iblk, V, idx t]

/-- The second vector of the factor, whole at every point. -/
theorem blk5 (c : Dev nD) (t : Fin cfg0.N) (x : Fin 128) :
    (iblk m c 5 t : Vec Ideal S1x128 .f32) (ix2 0 x) = m ((c : Thread nD τ).loc main_arg2) (ix2 0 x) := by
  blk_ext! [iblk, V, idx t]

/-- The third vector of the factor, whole at every point. -/
theorem blk6 (c : Dev nD) (t : Fin cfg0.N) (x : Fin 128) :
    (iblk m c 6 t : Vec Ideal S1x128 .f32) (ix2 0 x) = m ((c : Thread nD τ).loc main_arg3) (ix2 0 x) := by
  blk_ext! [iblk, V, idx t]

/-- The fourth vector of the factor, whole at every point. -/
theorem blk7 (c : Dev nD) (t : Fin cfg0.N) (x : Fin 128) :
    (iblk m c 7 t : Vec Ideal S1x128 .f32) (ix2 0 x) = m ((c : Thread nD τ).loc main_arg4) (ix2 0 x) := by
  blk_ext! [iblk, V, idx t]

/-- The norm's weights, whole at every point. -/
theorem blk8 (c : Dev nD) (t : Fin cfg0.N) (x : Fin 256) :
    (iblk m c 8 t : Vec Ideal S1x256 .f32) (ix2 0 x) = m ((c : Thread nD τ).loc main_arg5) (ix2 0 x) := by
  blk_ext! [iblk, V, idx t]

/-- A tile of a grid point's block is the specification's, at its batch, its head `2 h + hd` and its 256 rows. -/
theorem piece_eq (c : Dev nD) (hA : Tame (proj m c)) (t : Fin cfg0.N) (hd : Fin 2) (i : ℕ) (hi : i ≤ 7) (r x : Fin 256) :
    piece (iblk m c 0 t) (iblk m c 1 t) (iblk m c 2 t) (iblk m c 3 t) (iblk m c 4 t) (iblk m c 5 t) (iblk m c 6 t)
        (iblk m c 7 t) (iblk m c 8 t) hd i (ix3 0 r x)
      = res (proj m c) (lamOf (m ((c : Thread nD τ).loc main_arg1)) (m ((c : Thread nD τ).loc main_arg2))
          (m ((c : Thread nD τ).loc main_arg3)) (m ((c : Thread nD τ).loc main_arg4)))
          (m ((c : Thread nD τ).loc main_arg5) (ix2 0 x)) (bat t) (2 * (t.val % 8) + hd) (256 * i + r) x := by
  have hlam : k0_pay2 (View.ld (iblk m c 4 t) r0_0) (View.ld (iblk m c 5 t) r0_0) (View.ld (iblk m c 6 t) r0_0)
      (View.ld (iblk m c 7 t) r0_0) (ix2 0 0) = lamOf (m ((c : Thread nD τ).loc main_arg1)) (m ((c : Thread nD τ).loc main_arg2))
          (m ((c : Thread nD τ).loc main_arg3)) (m ((c : Thread nD τ).loc main_arg4)) := by
    pointwise [k0_pay2, lamOf]
    simp only [blk4, blk5, blk6, blk7]
  have hhd := hd.isLt
  rw [← hlam]
  refine tile_eq (proj m c) hA (bat t) (2 * (t.val % 8) + hd) i (by omega) hi ?_ ?_ ?_ ?_ ?_ _ _ _ ?_
  · intro a d
    pointwise [qb]
    rw [blk0]
    congr 1 <;> simp <;> omega
  · intro t' ht a d
    pointwise [kb]
    rw [blk1]
    congr 1 <;> simp <;> omega
  · intro t' ht a d
    pointwise [kb]
    rw [blk1]
    congr 1 <;> simp <;> omega
  · intro a key
    fin_cases hd
    · show k0_pay4 (View.ld (iblk m c 2 t) r0_2) (ix2 a key) = _
      pointwise [k0_pay4]
      rw [blk2]
      congr 1 <;> simp <;> omega
    · show k0_pay5 (View.ld (iblk m c 2 t) r0_3) (ix2 a key) = _
      pointwise [k0_pay5]
      rw [blk2]
      congr 1 <;> simp <;> omega
  · intro a d
    pointwise [qb]
    rw [blk3]
    congr 1 <;> simp <;> omega
  · pointwise [k0_pay3]
    rw [blk8]

/-- The specification's result at a column of the 4096: head `x / 256`, column `x % 256` of it. -/
def resAt (A : SA.Idx → EReal) (lam : EReal) (w : Fin 256 → EReal) (b : Fin 4) (s x : ℕ) : EReal :=
  res A lam (w ⟨x % 256, Nat.mod_lt _ (by decide)⟩) b (x / 256) s (x % 256)

/-- The result array the kernel is to leave. -/
def goal (c : Dev nD) (y : S4x2048x4096.Idx) : EReal :=
  resAt (proj m c) (lamOf (m ((c : Thread nD τ).loc main_arg1)) (m ((c : Thread nD τ).loc main_arg2))
      (m ((c : Thread nD τ).loc main_arg3)) (m ((c : Thread nD τ).loc main_arg4)))
    (fun x => m ((c : Thread nD τ).loc main_arg5) (ix2 0 x)) (y 0) (y 1) (y 2)

/-- The order of the sixteen stores covers both heads and all eight query tiles, and no others. -/
theorem order_le : ∀ p ∈ ([(1, 0), (1, 7), (1, 6), (1, 5), (1, 4), (1, 3), (1, 2), (1, 1),
        (0, 0), (0, 7), (0, 6), (0, 5), (0, 4), (0, 3), (0, 2), (0, 1)] : List (Fin 2 × ℕ)), p.2 ≤ 7 := by decide

/-- Every head and query tile is stored. -/
theorem order_mem : ∀ (hd : Fin 2) (i : Fin 8), (hd, (i : ℕ)) ∈ ([(1, 0), (1, 7), (1, 6), (1, 5), (1, 4), (1, 3), (1, 2), (1, 1),
        (0, 0), (0, 7), (0, 6), (0, 5), (0, 4), (0, 3), (0, 2), (0, 1)] : List (Fin 2 × ℕ)) := by decide

/-- A grid point's block of the result, at an index. -/
theorem block_eq (c : Dev nD) (hA : Tame (proj m c)) (t : Fin cfg0.N) (s : Fin 2048) (x : Fin 512) :
    out0_9 (iblk m c 0 t) (iblk m c 1 t) (iblk m c 2 t) (iblk m c 3 t) (iblk m c 4 t) (iblk m c 5 t) (iblk m c 6 t)
        (iblk m c 7 t) (iblk m c 8 t) (ix3 0 s x)
      = resAt (proj m c) (lamOf (m ((c : Thread nD τ).loc main_arg1)) (m ((c : Thread nD τ).loc main_arg2))
          (m ((c : Thread nD τ).loc main_arg3)) (m ((c : Thread nD τ).loc main_arg4)))
          (fun x => m ((c : Thread nD τ).loc main_arg5) (ix2 0 x)) (bat t) s (512 * (t.val % 8) + x) := by
  rw [out_eq]
  refine View.canon_eq_of_allAt _ _ _ ?_ ?_
  · refine ⟨_, List.mem_map.mpr ⟨_, order_mem ⟨x / 256, by omega⟩ ⟨s / 256, by omega⟩, rfl⟩, ?_⟩
    refine (Rect.mem_set_unit (inb := qin _ _ (hcol _ 0 256 (by decide)))).mpr fun a => ?_
    fin_cases a
    · exact ⟨le_rfl, Nat.one_pos⟩
    · constructor <;> simp <;> omega
    · constructor <;> simp <;> omega
  · intro p hp y hy
    obtain ⟨⟨hd, i⟩, hm, rfl⟩ := List.mem_map.mp hp
    have hi : i ≤ 7 := order_le _ hm
    have e1 := congrArg (fun z : S1x2048x512.Idx => (z 1 : ℕ)) hy
    have e2 := congrArg (fun z : S1x2048x512.Idx => (z 2 : ℕ)) hy
    have hhd := hd.isLt
    obtain ⟨r, z, rfl⟩ : ∃ r z : Fin 256, y = (ix3 0 r z : S1x256x256.Idx) := by
      refine ⟨y 1, y 2, funext fun a => ?_⟩
      fin_cases a
      · exact Subsingleton.elim (α := Fin 1) _ _
      · rfl
      · rfl
    have f1 : 256 * (i % 8) + 1 * (r : ℕ) = s := e1
    have f2 : 256 * (hd : ℕ) + 0 + 1 * (z : ℕ) = x := e2
    have hr := r.isLt
    have hz := z.isLt
    show piece _ _ _ _ _ _ _ _ _ hd i (ix3 0 r z) = _
    rw [piece_eq m c hA t hd i hi, resAt]
    have g1 : (512 * (t.val % 8) + (x : ℕ)) / 256 = 2 * (t.val % 8) + hd := by omega
    have g2 : (512 * (t.val % 8) + (x : ℕ)) % 256 = (z : ℕ) := by omega
    have g3 : 256 * i + (r : ℕ) = s := by omega
    have g4 : (⟨(512 * (t.val % 8) + (x : ℕ)) % 256, Nat.mod_lt _ (by decide)⟩ : Fin 256) = z := Fin.ext g2
    rw [g4, g1, g2, ← g3]

/-- The kernel's result array, at every index. -/
theorem arr_eq (c : Dev nD) (hA : Tame (proj m c)) : (dats m 0 c).arrAt 9 cfg0.N = goal m c := by
  refine (dats m 0 c).arrAt_eq_of_covers 9 _ (by decide +kernel) fun t hf y => ?_
  have ht : t.val < 32 := lt_of_lt_of_eq t.isLt N_0
  blk_simp
  rw [after0_9]
  obtain ⟨s, x, rfl⟩ : ∃ (s : Fin 2048) (x : Fin 512), y = (ix3 0 s x : S1x2048x512.Idx) := by
    refine ⟨y 1, y 2, funext fun a => ?_⟩
    fin_cases a
    · exact Subsingleton.elim (α := Fin 1) _ _
    · rfl
    · rfl
  rw [block_eq m c hA t s x, goal]
  have e0 : (((win0_9.blk t).view.emb (ix3 0 s x : S1x2048x512.Idx)) 0 : ℕ) = t.val / 8 := by blk_simp [idx t]; try simp
  have e1 : (((win0_9.blk t).view.emb (ix3 0 s x : S1x2048x512.Idx)) 1 : ℕ) = s := by blk_simp [idx t]; try simp
  have e2 : (((win0_9.blk t).view.emb (ix3 0 s x : S1x2048x512.Idx)) 2 : ℕ) = 512 * (t.val % 8) + x := by
    blk_simp [idx t]; try simp
    try omega
  have hb : ((win0_9.blk t).view.emb (ix3 0 s x : S1x2048x512.Idx)) 0 = bat t := Fin.ext e0
  show _ = resAt _ _ _ (((win0_9.blk t).view.emb (ix3 0 s x : S1x2048x512.Idx)) 0) _ _
  rw [hb]
  exact congrArg₂ _ e1.symm e2.symm

end Cert.KernelIdeal.Attn

end
-- ==== Proof.RefValue.lean ====
/- The reference's result, read at an index, is the specification's number. -/
module

public import proofs.«01_k».proof.Proof.Gen.ReferenceIdeal.Run
public import proofs.«01_k».proof.Proof.Spec

@[expose] public section

set_option maxRecDepth 16384

noncomputable section

namespace Cert.ReferenceIdeal.Attn

open Cert.ReferenceIdeal Cert.ReferenceIdeal.Gen Cert.ReferenceIdeal.Value Cert.Attn Idealize.ShloMosaic Idealize.ShloMosaic.Pointwise Idealize.SL.Sem

variable {F : FTy → Type} [FloatOps F]

/-- The scaled products of queries and keys, masked causally. -/
def masked (A : Vec F S4x2048x16384 .f32) : FVec F S4x16x2x2048x2048 .f32 :=
  select (broadcastInDim S4x16x2x2048x2048 ![3, 4] bcast_S2048x2048_S4x16x2x2048x2048_3_4 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (mulf (Host.dotGeneral dot_S4x16x2x2048x128_S4x16x2x2048x128_S4x16x2x2048x2048_4_4_3_3_012_012 none
      (transpose S4x16x2x2048x128 [0, 2, 3, 1, 4] (shapeCast S4x2048x16x2x128 (extractStridedSlice S4x2048x4096 ![0, 0, 0] A slices_S4x2048x16384_S4x2048x4096_0_0_0) shapeCasts_S4x2048x4096_S4x2048x16x2x128) transposes_S4x2048x16x2x128_S4x16x2x2048x128_0_2_3_1_4)
      (transpose S4x16x2x2048x128 [0, 2, 3, 1, 4] (shapeCast S4x2048x16x2x128 (extractStridedSlice S4x2048x4096 ![0, 0, 4096] A slices_S4x2048x16384_S4x2048x4096_0_0_4096) shapeCasts_S4x2048x4096_S4x2048x16x2x128) transposes_S4x2048x16x2x128_S4x16x2x2048x128_0_2_3_1_4))
      (broadcastInDim S4x16x2x2048x2048 ![] bcast_S_S4x16x2x2048x2048 (Host.divf (constant S_ .f32 0x3F800000#32) (Host.sqrt (constant S_ .f32 0x43000000#32)))))
    (broadcastInDim S4x16x2x2048x2048 ![] bcast_S_S4x16x2x2048x2048 (id (constant S_ .f32 0xFF800000#32)))

/-- The exponentials relative to each row's maximum. -/
def expd (S : FVec F S4x16x2x2048x2048 .f32) : FVec F S4x16x2x2048x2048 .f32 :=
  Host.exp (subf S (broadcastInDim S4x16x2x2048x2048 ![0, 1, 2, 3, 4] bcast_S4x16x2x2048x1_S4x16x2x2048x2048_0_1_2_3_4 (broadcastInDim S4x16x2x2048x1 ![0, 1, 2, 3] bcast_S4x16x2x2048_S4x16x2x2048x1_0_1_2_3 (maximumf (broadcastInDim S4x16x2x2048 ![] bcast_S_S4x16x2x2048 (constant S_ .f32 0xFF800000#32)) (Host.reduce FloatOps.maximumf S (constant S_ .f32 0xFF800000#32) reducesTo_S4x16x2x2048x2048_S4x16x2x2048_d4 h_S_)))))

/-- The softmax of each row. -/
def prob (E : FVec F S4x16x2x2048x2048 .f32) : FVec F S4x16x2x2048x2048 .f32 :=
  Host.divf E (broadcastInDim S4x16x2x2048x2048 ![0, 1, 2, 3, 4] bcast_S4x16x2x2048x1_S4x16x2x2048x2048_0_1_2_3_4 (broadcastInDim S4x16x2x2048x1 ![0, 1, 2, 3] bcast_S4x16x2x2048_S4x16x2x2048x1_0_1_2_3 (Host.reduceAdd E (constant S_ .f32 0x00000000#32) reducesTo_S4x16x2x2048x2048_S4x16x2x2048_d4 h_S_)))

/-- The factor of the second softmax. -/
def lamv (a b c d : Vec F S1x128 .f32) : FVec F S_ .f32 :=
  addf (subf (Host.exp (Host.reduceAdd (mulf (shapeCast S128 a shapeCasts_S1x128_S128) (shapeCast S128 b shapeCasts_S1x128_S128)) (constant S_ .f32 0x00000000#32) reducesTo_S128_S_d0 h_S_)) (Host.exp (Host.reduceAdd (mulf (shapeCast S128 c shapeCasts_S1x128_S128) (shapeCast S128 d shapeCasts_S1x128_S128)) (constant S_ .f32 0x00000000#32) reducesTo_S128_S_d0 h_S_))) (constant S_ .f32 0x3EB60549#32)

/-- The difference of the softmaxes times the values. -/
def outp (A : Vec F S4x2048x16384 .f32) (P : FVec F S4x16x2x2048x2048 .f32) (lam : FVec F S_ .f32) : FVec F S4x16x2048x256 .f32 :=
  Host.dotGeneral dot_S4x16x2048x2048_S4x16x2048x256_S4x16x2048x256_3_2_2_3_01_01 none
    (subf (shapeCast S4x16x2048x2048 (extractStridedSlice S4x16x1x2048x2048 ![0, 0, 0, 0, 0] P slices_S4x16x2x2048x2048_S4x16x1x2048x2048_0_0_0_0_0) shapeCasts_S4x16x1x2048x2048_S4x16x2048x2048)
      (mulf (broadcastInDim S4x16x2048x2048 ![] bcast_S_S4x16x2048x2048 lam) (shapeCast S4x16x2048x2048 (extractStridedSlice S4x16x1x2048x2048 ![0, 0, 1, 0, 0] P slices_S4x16x2x2048x2048_S4x16x1x2048x2048_0_0_1_0_0) shapeCasts_S4x16x1x2048x2048_S4x16x2048x2048)))
    (transpose S4x16x2048x256 [0, 2, 1, 3] (shapeCast S4x2048x16x256 (extractStridedSlice S4x2048x4096 ![0, 0, 8192] A slices_S4x2048x16384_S4x2048x4096_0_0_8192) shapeCasts_S4x2048x4096_S4x2048x16x256) transposes_S4x2048x16x256_S4x16x2048x256_0_2_1_3)

/-- The norm and the gate. -/
def gated (A : Vec F S4x2048x16384 .f32) (O : FVec F S4x16x2048x256 .f32) (w : Vec F S1x256 .f32) : FVec F S4x2048x4096 .bf16 :=
  truncf .bf16 (mulf (shapeCast S4x2048x4096 (transpose S4x2048x16x256 [0, 2, 1, 3] (mulf (mulf (mulf O (broadcastInDim S4x16x2048x256 ![0, 1, 2, 3] bcast_S4x16x2048x1_S4x16x2048x256_0_1_2_3 (Host.rsqrt (addf (Host.divf (broadcastInDim S4x16x2048x1 ![0, 1, 2] bcast_S4x16x2048_S4x16x2048x1_0_1_2 (Host.reduceAdd (mulf O O) (constant S_ .f32 0x00000000#32) reducesTo_S4x16x2048x256_S4x16x2048_d3 h_S_)) (broadcastInDim S4x16x2048x1 ![] bcast_S_S4x16x2048x1 (constant S_ .f32 0x43800000#32))) (broadcastInDim S4x16x2048x1 ![] bcast_S_S4x16x2048x1 (constant S_ .f32 0x358637BD#32)))))) (broadcastInDim S4x16x2048x256 ![0, 1, 2, 3] bcast_S1x1x1x256_S4x16x2048x256_0_1_2_3 (broadcastInDim S1x1x1x256 ![3] bcast_S256_S1x1x1x256_3 (shapeCast S256 w shapeCasts_S1x256_S256)))) (broadcastInDim S4x16x2048x256 ![] bcast_S_S4x16x2048x256 (constant S_ .f32 0x3F24FD5C#32))) transposes_S4x16x2048x256_S4x2048x16x256_0_2_1_3) shapeCasts_S4x2048x16x256_S4x2048x4096) (mulf (extractStridedSlice S4x2048x4096 ![0, 0, 12288] A slices_S4x2048x16384_S4x2048x4096_0_0_12288) (Host.divf (broadcastInDim S4x2048x4096 ![] bcast_S_S4x2048x4096 (constant S_ .f32 0x3F800000#32)) (addf (broadcastInDim S4x2048x4096 ![] bcast_S_S4x2048x4096 (constant S_ .f32 0x3F800000#32)) (Host.exp (Host.negf (extractStridedSlice S4x2048x4096 ![0, 0, 12288] A slices_S4x2048x16384_S4x2048x4096_0_0_12288))))))) bitsLt_bf16_f32

/-- The reference's result is these stages in turn. -/
theorem out_stages (m : (ℓ : Loc nD τ sig) → Buf (Elt F) ℓ) (c : Dev nD) : res_out0 m c
    = gated (m ((c.tc : Thread nD τ).loc main_arg0)) (outp (m ((c.tc : Thread nD τ).loc main_arg0))
        (prob (expd (masked (m ((c.tc : Thread nD τ).loc main_arg0)))))
        (lamv (m ((c.tc : Thread nD τ).loc main_arg1)) (m ((c.tc : Thread nD τ).loc main_arg2))
          (m ((c.tc : Thread nD τ).loc main_arg3)) (m ((c.tc : Thread nD τ).loc main_arg4))))
        (m ((c.tc : Thread nD τ).loc main_arg5)) := rfl

/-- The row maximum, read at a row. -/
theorem rowMax_read (S : FVec Ideal S4x16x2x2048x2048 .f32) (b : Fin 4) (H : Fin 16) (j : Fin 2) (s : Fin 2048) :
    Host.reduce FloatOps.maximumf S (constant S_ .f32 0xFF800000#32) reducesTo_S4x16x2x2048x2048_S4x16x2x2048_d4 h_S_ (ix4 b H j s)
      = Finset.univ.fold max (⊥ : EReal) fun t : Fin 2048 => S (ix5 b H j s t) := by
  pointwise
  congr 1

/-- The row sum, read at a row. -/
theorem rowSum_read (S : FVec Ideal S4x16x2x2048x2048 .f32) (b : Fin 4) (H : Fin 16) (j : Fin 2) (s : Fin 2048) :
    Host.reduceAdd S (constant S_ .f32 0x00000000#32) reducesTo_S4x16x2x2048x2048_S4x16x2x2048_d4 h_S_ (ix4 b H j s)
      = ∑ t : Fin 2048, S (ix5 b H j s t) := by
  pointwise

/-- A row's number spread over its keys. -/
theorem spread_read (R : FVec Ideal S4x16x2x2048 .f32) (b : Fin 4) (H : Fin 16) (j : Fin 2) (s t : Fin 2048) :
    broadcastInDim S4x16x2x2048x2048 ![0, 1, 2, 3, 4] bcast_S4x16x2x2048x1_S4x16x2x2048x2048_0_1_2_3_4
      (broadcastInDim S4x16x2x2048x1 ![0, 1, 2, 3] bcast_S4x16x2x2048_S4x16x2x2048x1_0_1_2_3 R) (ix5 b H j s t)
      = R (ix4 b H j s) := by
  pointwise

/-- An exponential of a difference, at an index. -/
theorem exp_sub_read {s : Shape} (X Y : FVec Ideal s .f32) (i : s.Idx) : Host.exp (subf X Y) i = Ideal.exp (X i - Y i) := rfl

/-- A maximum with the constant `-∞`, at an index. -/
theorem max_bot_read (X Y : FVec Ideal S4x16x2x2048 .f32) (i : S4x16x2x2048.Idx) (hX : X i = (⊥ : EReal)) :
    maximumf X Y i = Y i := by
  rw [show maximumf X Y i = max (X i) (Y i) from rfl, hX]
  exact max_eq_right bot_le

/-- The constant `-∞` spread over the rows. -/
theorem bot_read (i : S4x16x2x2048.Idx) :
    (broadcastInDim S4x16x2x2048 ![] bcast_S_S4x16x2x2048 (constant S_ .f32 0xFF800000#32) : FVec Ideal S4x16x2x2048 .f32) i
      = (⊥ : EReal) := by
  show Ideal.ofBits .f32 0xFF800000#32 = ⊥
  simp [Ideal.ofBits, Ideal.ieee]

/-- The exponentials, read at a row and a key. -/
theorem expd_read (S : FVec Ideal S4x16x2x2048x2048 .f32) (b : Fin 4) (H : Fin 16) (j : Fin 2) (s t : Fin 2048) :
    expd S (ix5 b H j s t)
      = Ideal.exp (S (ix5 b H j s t) - Finset.univ.fold max (⊥ : EReal) fun t : Fin 2048 => S (ix5 b H j s t)) := by
  unfold expd
  rw [exp_sub_read, spread_read, max_bot_read _ _ _ (bot_read _), rowMax_read]

/-- The softmax, read at a row and a key. -/
theorem prob_read (E : FVec Ideal S4x16x2x2048x2048 .f32) (b : Fin 4) (H : Fin 16) (j : Fin 2) (s t : Fin 2048) :
    prob E (ix5 b H j s t) = Ideal.div (E (ix5 b H j s t)) (∑ t : Fin 2048, E (ix5 b H j s t)) := by
  show Ideal.div (E (ix5 b H j s t)) _ = _
  rw [spread_read, rowSum_read]

/-- The reference's factor `1/√128`. -/
theorem scale_real : Ideal.div 1 (Ideal.sqrt (Ideal.ofBits .f32 0x43000000#32)) = (((Real.sqrt 128)⁻¹ : ℝ) : EReal) := by
  rw [f32_128, Ideal.sqrt_coe, if_neg (by norm_num),
    div_real _ _ (Real.sqrt_pos.2 (by norm_num : (0 : ℝ) < 128)).ne', one_mul]

/-- The masked logits are the causal scores. -/
theorem masked_score (A : Vec Ideal S4x2048x16384 .f32) (hA : Tame A) (b : Fin 4) (H : Fin 16) (j : Fin 2) (s t : Fin 2048) :
    masked A (ix5 b H j s t) = score (lg A b H j s) s t := by
  have hH := H.isLt
  have hj := j.isLt
  have hs := s.isLt
  have ht := t.isLt
  pointwise [masked]
  rw [select_le _ _ (by omega) (by omega), scale_real, score]
  refine if_congr Iff.rfl ?_ rfl
  rw [← qk_scaled A hA b H j s t hH hj, qk]
  refine congrArg (· * (((Real.sqrt 128)⁻¹ : ℝ) : EReal)) (Finset.sum_congr rfl fun d _ => ?_)
  have hd := d.isLt
  exact congrArg₂ (· * ·) (el_eq A b _ _ _ _ rfl (by show (H : ℕ) * 256 + j * 128 + d = _; omega))
    (el_eq A b _ _ _ _ rfl (by show 4096 + ((H : ℕ) * 256 + j * 128 + d) = _; omega))

/-- The reference's softmax is the causal softmax of the logits. -/
theorem prob_soft (A : Vec Ideal S4x2048x16384 .f32) (hA : Tame A) (b : Fin 4) (H : Fin 16) (j : Fin 2) (s t : Fin 2048) :
    prob (expd (masked A)) (ix5 b H j s t) = (soft (lg A b H j s) s t : EReal) := by
  rw [prob_read]
  simp only [expd_read, masked_score A hA]
  exact soft_ref (lg A b H j s) s t _ rfl

/-- The reference's second factor. -/
theorem lamv_read (a b c d : Vec Ideal S1x128 .f32) : lamv a b c d ix0
    = Ideal.exp (∑ x : Fin 128, a (ix2 0 x) * b (ix2 0 x)) - Ideal.exp (∑ x : Fin 128, c (ix2 0 x) * d (ix2 0 x))
      + Ideal.ofBits .f32 0x3EB60549#32 := by
  pointwise [lamv]

/-- The product with the values, for any softmax. -/
theorem outp_read (A : Vec Ideal S4x2048x16384 .f32) (P : FVec Ideal S4x16x2x2048x2048 .f32) (lam : FVec Ideal S_ .f32)
    (b : Fin 4) (H : Fin 16) (s : Fin 2048) (c : Fin 256) : outp A P lam (ix4 b H s c)
      = ∑ x : Fin 2048, (P (ix5 b H 0 s x) - lam ix0 * P (ix5 b H 1 s x)) * A (ix3 b x ⟨8192 + (H * 256 + c), by omega⟩) := by
  pointwise [outp]

/-- The reference's head output is the specification's. -/
theorem outp_att (A : Vec Ideal S4x2048x16384 .f32) (hA : Tame A) (lam : FVec Ideal S_ .f32) (b : Fin 4) (H : Fin 16)
    (s : Fin 2048) (c : Fin 256) : outp A (prob (expd (masked A))) lam (ix4 b H s c) = att A (lam ix0) b H s c := by
  rw [outp_read]
  refine Finset.sum_congr rfl fun key _ => ?_
  rw [prob_soft A hA, prob_soft A hA]
  exact congrArg _ (el_eq A b _ _ _ _ rfl (by show 8192 + ((H : ℕ) * 256 + c) = _; omega))

/-- The norm and the gate, for any head output. -/
theorem gated_read (A : Vec Ideal S4x2048x16384 .f32) (O : FVec Ideal S4x16x2048x256 .f32) (w : Vec Ideal S1x256 .f32)
    (b : Fin 4) (s : Fin 2048) (x : Fin 4096) (H : Fin 16) (c : Fin 256) (hx : (x : ℕ) = 256 * H + c) :
    gated A O w (ix3 b s x) = O (ix4 b H s c)
      * Ideal.rsqrt (Ideal.div (∑ y : Fin 256, O (ix4 b H s y) * O (ix4 b H s y)) (Ideal.ofBits .f32 0x43800000#32)
          + Ideal.ofBits .f32 0x358637BD#32) * w (ix2 0 c) * Ideal.ofBits .f32 0x3F24FD5C#32
      * silu (el A b s (12288 + 256 * H + c)) := by
  have hc := c.isLt
  have e1 : (⟨(x : ℕ) / 256, by omega⟩ : Fin 16) = H := Fin.ext (by show (x : ℕ) / 256 = _; omega)
  have e2 : (⟨(x : ℕ) % 256, by omega⟩ : Fin 256) = c := Fin.ext (by show (x : ℕ) % 256 = _; omega)
  pointwise [gated]
  rw [e1, e2, el_eq A b s _ _ (12288 + 256 * H + c) rfl (by show 12288 + (x : ℕ) = _; omega)]
  rfl

/-- The reference's result, read at an index, is the specification's number. -/
theorem gated_res (A : Vec Ideal S4x2048x16384 .f32) (hA : Tame A) (l1 l2 l3 l4 : Vec Ideal S1x128 .f32) (w : Vec Ideal S1x256 .f32)
    (b : Fin 4) (s : Fin 2048) (x : Fin 4096) (H : Fin 16) (c : Fin 256) (hx : (x : ℕ) = 256 * H + c) :
    gated A (outp A (prob (expd (masked A))) (lamv l1 l2 l3 l4)) w (ix3 b s x)
      = res A (Ideal.exp (∑ x : Fin 128, l1 (ix2 0 x) * l2 (ix2 0 x)) - Ideal.exp (∑ x : Fin 128, l3 (ix2 0 x) * l4 (ix2 0 x))
          + Ideal.ofBits .f32 0x3EB60549#32) (w (ix2 0 c)) b H s c := by
  rw [gated_read A _ w b s x H c hx]
  simp only [outp_att A hA, lamv_read]
  rw [res, mul_assoc (_ * _) (w _)]

end Cert.ReferenceIdeal.Attn

end
-- ==== Proof.Claims.lean ====
/- The certificate's claims. -/
module

public import proofs.«01_k».proof.Defs
public import proofs.«01_k».proof.Proof.KernelValue
public import proofs.«01_k».proof.Proof.RefValue
public import proofs.«01_k».proof.Proof.Gen.Kernel.Frame
public import proofs.«01_k».proof.Proof.Gen.Pre_tame
public import Idealize.ShloMosaic.Lib.Quiescent

@[expose] public section

noncomputable section

namespace Cert.Proof

open Idealize.ShloMosaic Idealize.ShloMosaic.TcCoe Idealize.ShloMosaic.Pointwise Idealize.SL.Sem Cert.Attn

/-- Both bits of a conjunction that is one are one. -/
theorem one_and (x y : BitVec 1) : IntOp.andi x y = 1#1 ↔ x = 1#1 ∧ y = 1#1 := by
  revert x y; decide

/-- One of two decided bits holds when their disjunction is one. -/
theorem one_or (p q : Prop) [Decidable p] [Decidable q] :
    IntOp.ori (BitVec.ofBool (decide p)) (BitVec.ofBool (decide q)) = 1#1 ↔ p ∨ q := by
  by_cases hp : p <;> by_cases hq : q <;> simp [hp, hq, IntOp.ori]

/-- The precondition, read at an index: a query or key entry lies strictly between the infinities, a gate entry above
    the lower one. -/
theorem tame_of (A : FVec Ideal Cert.Pre_tame.S4x2048x16384 .f32) (l1 l2 l3 l4 : FVec Ideal Cert.Pre_tame.S1x128 .f32)
    (w : FVec Ideal Cert.Pre_tame.S1x256 .f32)
    (h : Cert.Pre_tame.fn (F := Ideal) A l1 l2 l3 l4 w = fun _ => 1#1) : Tame A := by
  have key : ∀ (b : Fin 4) (s : Fin 2048) (c : Fin 16384), ((c : ℕ) < 8192 → ∃ x : ℝ, A (ix3 b s c) = (x : EReal))
      ∧ (12288 ≤ (c : ℕ) → A (ix3 b s c) ≠ ⊥) := by
    intro b s c
    have e := congrFun h (ix3 b s c)
    pointwise [Cert.Pre_tame.fn] at e
    have hc := c.isLt
    rw [WordCmp.cmpi_sge_ofNat (by omega) (by norm_num), WordCmp.cmpi_slt_ofNat (by omega) (by norm_num)] at e
    have hp : Ideal.ofBits .f32 2139095040#32 = ⊤ := by simp [Ideal.ofBits, Ideal.ieee]
    have hn : Ideal.ofBits .f32 4286578688#32 = ⊥ := by simp [Ideal.ofBits, Ideal.ieee]
    rw [hp, hn] at e
    obtain ⟨e1, e2⟩ := (one_and _ _).mp e
    constructor
    · intro h8
      have h1 : max (A (ix3 b s c)) (-A (ix3 b s c)) < ⊤ := by
        rcases (one_or _ _).mp e1 with h | h
        · exact h
        · omega
      induction hx : A (ix3 b s c) using EReal.rec with
      | bot => rw [hx] at h1; simp at h1
      | top => rw [hx] at h1; simp at h1
      | coe x => exact ⟨x, rfl⟩
    · intro h12 hx
      rcases (one_or _ _).mp e2 with h | h
      · rw [hx] at h; exact lt_irrefl _ h
      · omega
  refine ⟨fun b s c hc => ?_, fun b s c h1 h2 => ?_⟩
  · exact (key b _ ⟨c % 16384, _⟩).1 (by show c % 16384 < _; omega)
  · exact (key b _ ⟨c % 16384, _⟩).2 (by show _ ≤ c % 16384; omega)

/-- The kernel as printed, on machine words, runs and changes no argument. -/
theorem frame_p : Cert.quiescent_Kernel := fun m ρ _ => Cert.Kernel.Gen.frame m ρ

/-- So does the kernel on the extended reals. -/
theorem frame_pi : Cert.quiescent_KernelIdeal := fun m ρ _ => Cert.KernelIdeal.Gen.frame m ρ

/-- The same from the memories the value claim speaks of. -/
theorem frame_pi_tame : Cert.quiescent_KernelIdeal_pre_tame := fun m ρ _ => Cert.KernelIdeal.Gen.frame m ρ

/-- The reference runs, changes no argument and has no semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories the value claim speaks of. -/
theorem frame_ri_tame : Cert.quiescent_ReferenceIdeal_pre_tame := fun m ρ _ => frame_ri m ρ trivial

/-- Each named constant has the value the table gives it. -/
theorem preserves : Cert.preserves_Kernel_KernelIdeal :=
  ⟨IdealRules.named_const.statement _ _ _ _ _ rfl, IdealRules.named_const.statement _ _ _ _ _ rfl⟩

/-- The reference's result array is the array the kernel leaves, of the same arguments. -/
theorem ref_goal (m : (ℓ : Loc Cert.KernelIdeal.nD Cert.KernelIdeal.τ Cert.KernelIdeal.sig) → Buf (Elt Ideal) ℓ)
    (c : Dev Cert.KernelIdeal.nD) (hA : Tame (Cert.KernelIdeal.Attn.proj m c)) :
    Cert.ReferenceIdeal.Attn.gated (F := Ideal) (Cert.KernelIdeal.Attn.proj m c)
      (Cert.ReferenceIdeal.Attn.outp (Cert.KernelIdeal.Attn.proj m c)
        (Cert.ReferenceIdeal.Attn.prob (Cert.ReferenceIdeal.Attn.expd (Cert.ReferenceIdeal.Attn.masked (Cert.KernelIdeal.Attn.proj m c))))
        (Cert.ReferenceIdeal.Attn.lamv (m ((c : Thread Cert.KernelIdeal.nD Cert.KernelIdeal.τ).loc Cert.KernelIdeal.main_arg1)) (m ((c : Thread Cert.KernelIdeal.nD Cert.KernelIdeal.τ).loc Cert.KernelIdeal.main_arg2))
          (m ((c : Thread Cert.KernelIdeal.nD Cert.KernelIdeal.τ).loc Cert.KernelIdeal.main_arg3)) (m ((c : Thread Cert.KernelIdeal.nD Cert.KernelIdeal.τ).loc Cert.KernelIdeal.main_arg4))))
      (m ((c : Thread Cert.KernelIdeal.nD Cert.KernelIdeal.τ).loc Cert.KernelIdeal.main_arg5)) = Cert.KernelIdeal.Attn.goal m c := by
  funext y
  obtain ⟨b, s, x, rfl⟩ : ∃ (b : Fin 4) (s : Fin 2048) (x : Fin 4096), y = (ix3 b s x : Cert.KernelIdeal.S4x2048x4096.Idx) := by
    refine ⟨y 0, y 1, y 2, funext fun a => ?_⟩
    fin_cases a <;> rfl
  exact Cert.ReferenceIdeal.Attn.gated_res _ hA _ _ _ _ _ b s x ⟨(x : ℕ) / 256, by have := x.isLt; omega⟩ ⟨(x : ℕ) % 256, Nat.mod_lt _ (by decide)⟩
    (by show (x : ℕ) = 256 * (x / 256) + x % 256; omega)

/-- On the extended reals the kernel and the reference leave one result array. -/
theorem algebraic : Cert.algebraic_KernelIdeal_ReferenceIdeal_pre_tame := by
  intro m ρ m' ρ' hpre hagree
  have hA : ∀ c, Tame (Cert.KernelIdeal.Attn.proj m c) := fun c => tame_of _ _ _ _ _ _ (hpre c)
  refine ⟨fun c => Cert.KernelIdeal.Attn.goal m c,
    (θ_run Cert.KernelIdeal.defs _ _).mono (fun _ h c => ⟨(h c).1.trans (Cert.KernelIdeal.Attn.arr_eq m c (hA c)), (h c).2⟩)
      (Cert.KernelIdeal.Value.run_blocks m ρ),
    (θ_run Cert.ReferenceIdeal.defs _ _).mono (fun _ h c => ⟨(h c).1.trans ?_, (h c).2⟩)
      (Cert.ReferenceIdeal.Value.run (F := Ideal) m' ρ')⟩
  obtain ⟨e0, e1, e2, e3, e4, e5⟩ := hagree c
  refine (Cert.ReferenceIdeal.Attn.out_stages m' c).trans ?_
  rw [e0, e1, e2, e3, e4, e5]
  exact ref_goal m c (hA c)

end Cert.Proof

end
-- ==== Proof.InProj.lean ====
/- The odd layer's input projection: the kernel's two result arrays and the reference's, read at an index. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit.Point

@[expose] public section

set_option maxRecDepth 16384

noncomputable section

namespace Cert.InProj

open Idealize.ShloMosaic Idealize.ShloMosaic.Pointwise

/-- A block written as two halves of 1024 rows holds at a row and a column what its half was given there. -/
theorem halves_eq (f : Fin 2048 → Fin 1024 → EReal) (inb1 : ∀ a, (![1024, 0] : Fin 2 → ℕ) a + (![1024, 1024] : Fin 2 → ℕ) a ≤ (![2048, 1024] : Fin 2 → ℕ) a)
    (inb0 : ∀ a, (![0, 0] : Fin 2 → ℕ) a + (![1024, 1024] : Fin 2 → ℕ) a ≤ (![2048, 1024] : Fin 2 → ℕ) a)
    (p1 p0 : Vec Ideal ⟨2, ![1024, 1024]⟩ .bf16)
    (h1 : ∀ (r x : Fin 1024), p1 (ix2 r x) = f ⟨1024 + r, by omega⟩ x) (h0 : ∀ (r x : Fin 1024), p0 (ix2 r x) = f ⟨r, by omega⟩ x)
    (r : Fin 2048) (x : Fin 1024) :
    View.canon ([⟨Rect.unit (s := ⟨2, ![2048, 1024]⟩) ![1024, 0] ![1024, 1024] inb1, p1⟩,
      ⟨Rect.unit (s := ⟨2, ![2048, 1024]⟩) ![0, 0] ![1024, 1024] inb0, p0⟩] : List (View.Piece (Elt Ideal) ⟨2, ![2048, 1024]⟩ .bf16)) (ix2 r x) = f r x := by
  refine View.canon_eq_of_allAt _ _ _ ?_ ?_
  · by_cases hr : (r : ℕ) < 1024
    · refine ⟨_, List.mem_cons_of_mem _ (List.mem_singleton.mpr rfl), (Rect.mem_set_unit (inb := inb0)).mpr fun a => ?_⟩
      fin_cases a <;> simp <;> omega
    · refine ⟨_, List.mem_cons_self, (Rect.mem_set_unit (inb := inb1)).mpr fun a => ?_⟩
      fin_cases a <;> simp <;> omega
  · intro p hp y hy
    rcases List.mem_cons.mp hp with rfl | hp
    · obtain ⟨a, z, rfl⟩ : ∃ (a z : Fin 1024), y = ix2 a z := ⟨y 0, y 1, funext fun i => by fin_cases i <;> rfl⟩
      have e0 : 1024 + 1 * (a : ℕ) = r := congrArg (fun z : (⟨2, ![2048, 1024]⟩ : Shape).Idx => (z 0 : ℕ)) hy
      have e1 : 0 + 1 * (z : ℕ) = x := congrArg (fun z : (⟨2, ![2048, 1024]⟩ : Shape).Idx => (z 1 : ℕ)) hy
      obtain rfl : z = x := Fin.ext (by omega)
      exact (h1 a z).trans (congrArg (f · z) (Fin.ext (by show 1024 + (a : ℕ) = r; omega)))
    · obtain rfl := List.mem_singleton.mp hp
      obtain ⟨a, z, rfl⟩ : ∃ (a z : Fin 1024), y = ix2 a z := ⟨y 0, y 1, funext fun i => by fin_cases i <;> rfl⟩
      have e0 : 0 + 1 * (a : ℕ) = r := congrArg (fun z : (⟨2, ![2048, 1024]⟩ : Shape).Idx => (z 0 : ℕ)) hy
      have e1 : 0 + 1 * (z : ℕ) = x := congrArg (fun z : (⟨2, ![2048, 1024]⟩ : Shape).Idx => (z 1 : ℕ)) hy
      obtain rfl : z = x := Fin.ext (by omega)
      exact (h0 a z).trans (congrArg (f · z) (Fin.ext (by show (a : ℕ) = r; omega)))

end Cert.InProj

namespace Cert.Kernel2Ideal.InProj

open Cert.Kernel2Ideal Cert.Kernel2Ideal.Gen Cert.InProj Idealize.ShloMosaic Idealize.ShloMosaic.TcCoe Idealize.ShloMosaic.Pointwise Idealize.SL.Sem
open Idealize.ShloMosaic.Pipeline (Dat)

variable (m : (ℓ : Loc nD τ sig) → Buf (Elt Ideal) ℓ)

/-- The zero offset of a matrix. -/
theorem hz2 : (![0, 0] : Fin 2 → Nat) = fun _ => 0 := funext fun a => by fin_cases a <;> rfl

/-- The zero offset of a stack of matrices. -/
theorem hz3 : (![0, 0, 0] : Fin 3 → Nat) = fun _ => 0 := funext fun a => by fin_cases a <;> rfl

/-- A row of the one block times a column of the other. -/
def dot (x0 : Vec Ideal S2048x2048 .bf16) (w : Fin 2048 → Fin 1024 → EReal) (r : Fin 2048) (x : Fin 1024) : EReal :=
  ∑ k : Fin 2048, x0 (ix2 r k) * w k x

section Cases

variable (c : Dev nD) (i : grid0.Coords) (a2 : Memref sig .tc .vmem S2048x2048 .bf16) (h2 : a2.IsWhole) (a3 : Memref sig .tc .vmem S1x2048x1024 .f32) (h3 : a3.IsWhole)
  (a4 : Memref sig .tc .vmem S1x128x2048 .f32) (h4 : a4.IsWhole) (a5 : Memref sig .tc .vmem S2048x1024 .bf16) (h5 : a5.IsWhole)
  (a6 : Memref sig .tc .vmem S128x2048 .bf16) (h6 : a6.IsWhole) (a7 : Memref sig .tc .vmem S2048x1024 .bf16) (h7 : a7.IsWhole)
  (x0 : Vec Ideal S2048x2048 .bf16) (x1 : Vec Ideal S1x2048x1024 .f32) (x2 : Vec Ideal S1x128x2048 .f32) (xs : Vec Ideal S2048x1024 .bf16)

/-- At the first row block of a column block the result is the rows times the weights' window. -/
theorem outA (hc0 : cond0_0 i) (hc1 : ¬cond0_1 i) (r : Fin 2048) (x : Fin 1024) :
    out0_A_3 c i a2 h2 a3 h3 a4 h4 a5 h5 a6 h6 a7 h7 hc0 hc1 x0 x1 x2 (ix2 r x) = dot x0 (fun k x => x1 (ix3 0 k x)) r x := by
  unfold out0_A_3
  rw [View.read_writes_junk_eq_canon]
  unfold kernelRun0_A
  dsimp only
  sl_unfold_words
  refine halves_eq _ _ _ _ _ ?_ ?_ r x
  · intro r x
    simp only [View.readAt_eq_ld, h3.read_unread, h2.read_unread, View.ld_unit_zero (S := S1x2048x1024) hz3]
    pointwise [k0_pay4, k0_pay1, dot]
  · intro r x
    simp only [View.readAt_eq_ld, h3.read_unread, h2.read_unread, View.ld_unit_zero (S := S1x2048x1024) hz3]
    pointwise [k0_pay3, k0_pay1, dot]

/-- At the later row blocks it is the rows times what the scratch holds. -/
theorem outB (hc0 : ¬cond0_0 i) (hc1 : cond0_1 i) (r : Fin 2048) (x : Fin 1024) :
    out0_B_3 c i a2 h2 a3 h3 a4 h4 a5 h5 a6 h6 a7 h7 hc0 hc1 x0 x1 x2 xs (ix2 r x) = dot x0 (fun k x => xs (ix2 k x)) r x := by
  unfold out0_B_3
  rw [View.read_writes_junk_eq_canon]
  unfold kernelRun0_B
  dsimp only
  sl_unfold_words
  refine halves_eq _ _ _ _ _ ?_ ?_ r x
  · intro r x
    simp only [View.readAt_eq_ld, h7.read_unread, h2.read_unread, View.ld_unit_zero (S := S2048x1024) hz2]
    pointwise [k0_pay6, dot]
  · intro r x
    simp only [View.readAt_eq_ld, h7.read_unread, h2.read_unread, View.ld_unit_zero (S := S2048x1024) hz2]
    pointwise [k0_pay5, dot]

/-- At the first row block the scratch takes the weights' window. -/
theorem scratchA (hc0 : cond0_0 i) (hc1 : ¬cond0_1 i) (k : Fin 2048) (x : Fin 1024) :
    sout0_A_0 c i a2 h2 a3 h3 a4 h4 a5 h5 a6 h6 a7 h7 hc0 hc1 x0 x1 x2 (ix2 k x) = x1 (ix3 0 k x) := by
  unfold sout0_A_0
  rw [View.read_writes_junk_eq_canon]
  unfold kernelRun0_A
  dsimp only
  sl_unfold_words
  rw [View.canon_unit_zero (S := S2048x1024) hz2]
  simp only [View.readAt_eq_ld, h3.read_unread, View.ld_unit_zero (S := S1x2048x1024) hz3]
  pointwise [k0_pay2, k0_pay1]

/-- The side cast at the first row block. -/
theorem sideA (hc0 : cond0_0 i) (hc1 : ¬cond0_1 i) (r : Fin 128) (x : Fin 2048) :
    out0_A_4 c i a2 h2 a3 h3 a4 h4 a5 h5 a6 h6 a7 h7 hc0 hc1 x0 x1 x2 (ix2 r x) = x2 (ix3 0 r x) := by
  unfold out0_A_4
  rw [View.read_writes_junk_eq_canon]
  unfold kernelRun0_A
  dsimp only
  sl_unfold_words
  rw [View.canon_unit_zero (S := S128x2048) hz2]
  simp only [View.readAt_eq_ld, h4.read_unread, View.ld_unit_zero (S := S1x128x2048) hz3]
  pointwise [k0_pay7]

/-- The side cast at the later row blocks. -/
theorem sideB (hc0 : ¬cond0_0 i) (hc1 : cond0_1 i) (r : Fin 128) (x : Fin 2048) :
    out0_B_4 c i a2 h2 a3 h3 a4 h4 a5 h5 a6 h6 a7 h7 hc0 hc1 x0 x1 x2 xs (ix2 r x) = x2 (ix3 0 r x) := by
  unfold out0_B_4
  rw [View.read_writes_junk_eq_canon]
  unfold kernelRun0_B
  dsimp only
  sl_unfold_words
  rw [View.canon_unit_zero (S := S128x2048) hz2]
  simp only [View.readAt_eq_ld, h4.read_unread, View.ld_unit_zero (S := S1x128x2048) hz3]
  pointwise [k0_pay7]

end Cases

/-- The normed rows, as launched. -/
abbrev rows (c : Dev nD) : S8192x2048.Idx → EReal := m ((c : Thread nD τ).loc main_arg0)

/-- The weights, as launched. -/
abbrev weights (c : Dev nD) : S1x2048x16384.Idx → EReal := m ((c : Thread nD τ).loc main_arg1)

/-- The projection, at a row and a column. -/
def goal (c : Dev nD) (y : S8192x16384.Idx) : EReal := ∑ k : Fin 2048, rows m c (ix2 (y 0) k) * weights m c (ix3 0 k (y 1))

/-- The cast of the output projection's weights. -/
def goalSide (c : Dev nD) (y : S4096x2048.Idx) : EReal := m ((c : Thread nD τ).loc main_arg2) (ix3 0 (y 0) (y 1))

/-- The grid: sixteen blocks of columns times four blocks of rows; each window's block at a point. -/
theorem idx : ∀ t : Fin cfg0.N, win0_0.index t = ![t.val % 4, 0] ∧ win0_1.index t = ![0, 0, t.val / 4] ∧ win0_2.index t = ![0, min t.val 31, 0]
    ∧ win0_3.index t = ![t.val % 4, t.val / 4] ∧ win0_4.index t = ![min t.val 31, 0] :=
  (by decide +kernel : ∀ t : Fin grid0.N, _)

/-- A row of a grid point's block, as a row of the array. -/
def row (t : Fin cfg0.N) (r : Fin 2048) : Fin 8192 := ⟨2048 * (t.val % 4) + r, by omega⟩

/-- A column of a grid point's block, as a column of the array. -/
def col (t : Fin cfg0.N) (x : Fin 1024) : Fin 16384 :=
  ⟨1024 * (t.val / 4) + x, by have : t.val < 64 := lt_of_lt_of_eq t.isLt N_0; omega⟩

/-- A row of a grid point's side block, as a row of the cast array. -/
def srow (t : Fin cfg0.N) (r : Fin 128) : Fin 4096 := ⟨128 * min t.val 31 + r, by omega⟩

/-- The rows' window. -/
theorem blk0 (c : Dev nD) (t : Fin cfg0.N) (r k : Fin 2048) :
    (iblk m c 0 t : Vec Ideal S2048x2048 .bf16) (ix2 r k) = m ((c : Thread nD τ).loc main_arg0) (ix2 (row t r) k) := by
  blk_ext! [iblk, V, idx t, row]

/-- The weights' window. -/
theorem blk1 (c : Dev nD) (t : Fin cfg0.N) (k : Fin 2048) (x : Fin 1024) :
    (iblk m c 1 t : Vec Ideal S1x2048x1024 .f32) (ix3 0 k x) = m ((c : Thread nD τ).loc main_arg1) (ix3 0 k (col t x)) := by
  blk_ext! [iblk, V, idx t, col]

/-- The side cast's window. -/
theorem blk2 (c : Dev nD) (t : Fin cfg0.N) (r : Fin 128) (x : Fin 2048) :
    (iblk m c 2 t : Vec Ideal S1x128x2048 .f32) (ix3 0 r x) = m ((c : Thread nD τ).loc main_arg2) (ix3 0 (srow t r) x) := by
  blk_ext! [iblk, V, idx t, srow]

/-- After every point the scratch holds the weights of the point's columns: the first row block stores them, the later
    ones leave them. -/
theorem scratch_eq (c : Dev nD) (k : Fin 2048) (x : Fin 1024) : ∀ (n : ℕ) (hn : n < cfg0.N),
    (outsAt0 m c n hn).2.2 (ix2 k x) = m ((c : Thread nD τ).loc main_arg1) (ix3 0 k (col ⟨n, hn⟩ x)) := by
  intro n
  induction n with
  | zero =>
    intro hn
    rw [outsAt0_A m c ⟨0, hn⟩ (Nat.zero_mod _) (by show ¬1 ≤ 0 % 4; omega)]
    dsimp only
    rw [scratchA, blk1]
  | succ n ih =>
    intro hn
    by_cases h0 : (n + 1) % 4 = 0
    · rw [outsAt0_A m c ⟨n + 1, hn⟩ h0 (by show ¬1 ≤ (n + 1) % 4; omega)]
      dsimp only
      rw [scratchA, blk1]
    · rw [outsAt0_B m c ⟨n + 1, hn⟩ h0 (by show 1 ≤ (n + 1) % 4; omega)]
      refine (ih (Nat.lt_of_succ_lt hn)).trans ?_
      have e : col ⟨n, Nat.lt_of_succ_lt hn⟩ x = col ⟨n + 1, hn⟩ x := Fin.ext (by show 1024 * (n / 4) + (x : ℕ) = 1024 * ((n + 1) / 4) + x; omega)
      rw [e]

/-- A grid point's block of the projection. -/
theorem block_eq (c : Dev nD) (t : Fin cfg0.N) (r : Fin 2048) (x : Fin 1024) :
    (outsAt0 m c t.val t.isLt).1 (ix2 r x) = goal m c (ix2 (row t r) (col t x)) := by
  by_cases h0 : t.val % 4 = 0
  · rw [outsAt0_A m c t h0 (by omega)]
    dsimp only
    rw [outA]
    simp only [dot, blk0, blk1]
    rfl
  · rw [outsAt0_B m c t h0 (by omega)]
    dsimp only
    rw [outB]
    have hp : t.val - 1 < cfg0.N := Nat.lt_of_le_of_lt (Nat.sub_le _ _) t.isLt
    have e : col ⟨t.val - 1, hp⟩ x = col t x := Fin.ext (by show 1024 * ((t.val - 1) / 4) + (x : ℕ) = 1024 * (t.val / 4) + x; omega)
    simp only [dot, blk0, scratch_eq, e]
    rfl

/-- A grid point's block of the side cast. -/
theorem side_eq (c : Dev nD) (t : Fin cfg0.N) (r : Fin 128) (x : Fin 2048) :
    (outsAt0 m c t.val t.isLt).2.1 (ix2 r x) = goalSide m c (ix2 (srow t r) x) := by
  by_cases h0 : t.val % 4 = 0
  · rw [outsAt0_A m c t h0 (by omega)]
    dsimp only
    rw [sideA, blk2]
    rfl
  · rw [outsAt0_B m c t h0 (by omega)]
    dsimp only
    rw [sideB, blk2]
    rfl

/-- The projection the kernel leaves, at every index. -/
theorem arr_eq (c : Dev nD) : (dats m 0 c).arrAt 3 cfg0.N = goal m c := by
  refine (dats m 0 c).arrAt_eq_of_covers 3 _ (by decide +kernel) fun t hf y => ?_
  have ht : t.val < 64 := lt_of_lt_of_eq t.isLt N_0
  blk_simp
  rw [after0_3]
  obtain ⟨r, x, rfl⟩ : ∃ (a : Fin 2048) (z : Fin 1024), y = (ix2 a z : S2048x1024.Idx) :=
    ⟨y 0, y 1, funext fun i => by fin_cases i <;> rfl⟩
  rw [block_eq m c t r x]
  refine congrArg (goal m c) (funext fun a => Fin.ext ?_)
  fin_cases a
  · show (row t r : ℕ) = _
    blk_simp [idx t, row]
    try simp
    try omega
  · show (col t x : ℕ) = _
    blk_simp [idx t, col]
    try simp
    try omega

/-- The cast the kernel leaves, at every index. -/
theorem arr_side_eq (c : Dev nD) : (dats m 0 c).arrAt 4 cfg0.N = goalSide m c := by
  refine (dats m 0 c).arrAt_eq_of_covers 4 _ (by decide +kernel) fun t hf y => ?_
  have ht : t.val < 64 := lt_of_lt_of_eq t.isLt N_0
  blk_simp
  rw [after0_4]
  obtain ⟨r, x, rfl⟩ : ∃ (a : Fin 128) (z : Fin 2048), y = (ix2 a z : S128x2048.Idx) :=
    ⟨y 0, y 1, funext fun i => by fin_cases i <;> rfl⟩
  rw [side_eq m c t r x]
  refine congrArg (goalSide m c) (funext fun a => Fin.ext ?_)
  fin_cases a
  · show (srow t r : ℕ) = _
    blk_simp [idx t, srow]
    try simp
    try omega
  · show (x : ℕ) = _
    blk_simp [idx t]
    try simp

end Cert.Kernel2Ideal.InProj

namespace Cert.Reference2Ideal.InProj

open Cert.Reference2Ideal Cert.Reference2Ideal.Gen Idealize.ShloMosaic Idealize.ShloMosaic.Pointwise Idealize.SL.Sem

/-- The reference's projection, at an index. -/
theorem proj_eq (h : Vec Ideal S8192x2048 .f32) (w : Vec Ideal S1x2048x16384 .f32) (r : Fin 8192) (x : Fin 16384) :
    truncf .bf16 (Host.dotGeneral (F := Ideal) (φ₁ := .f32) (φ₂ := .f32) dot_S8192x2048_S2048x16384_S8192x16384_1_0_0_1_n_n none h
      (shapeCast _ w shapeCasts_S1x2048x16384_S2048x16384)) bitsLt_bf16_f32 (ix2 r x) = ∑ k : Fin 2048, h (ix2 r k) * w (ix3 0 k x) := by
  pointwise []

/-- The reference's cast, at an index. -/
theorem side_eq (w : FVec Ideal S1x4096x2048 .f32) (r : Fin 4096) (x : Fin 2048) :
    truncf .bf16 (shapeCast S4096x2048 w shapeCasts_S1x4096x2048_S4096x2048) bitsLt_bf16_f32 (ix2 r x) = w (ix3 0 r x) := by
  pointwise []

end Cert.Reference2Ideal.InProj

end
-- ==== Proof.InProjEven.lean ====
/- The even layer's input projection: the kernel's two result arrays and the reference's, read at an index. The weights are
   taken transposed, their 32 columns of time steps left out. -/
module

public import proofs.«01_k».proof.Proof.InProj
public import proofs.«01_k».proof.Proof.Gen.Kernel3Ideal.Value
public import proofs.«01_k».proof.Proof.Gen.Reference3Ideal.Run

@[expose] public section

set_option maxRecDepth 16384

noncomputable section

namespace Cert.Kernel3Ideal.InProj

open Cert.Kernel3Ideal Cert.Kernel3Ideal.Gen Cert.InProj Idealize.ShloMosaic Idealize.ShloMosaic.TcCoe Idealize.ShloMosaic.Pointwise Idealize.SL.Sem
open Idealize.ShloMosaic.Pipeline (Dat)

variable (m : (ℓ : Loc nD τ sig) → Buf (Elt Ideal) ℓ)

/-- The zero offset of a matrix. -/
theorem hz2 : (![0, 0] : Fin 2 → Nat) = fun _ => 0 := funext fun a => by fin_cases a <;> rfl

/-- The zero offset of a stack of matrices. -/
theorem hz3 : (![0, 0, 0] : Fin 3 → Nat) = fun _ => 0 := funext fun a => by fin_cases a <;> rfl

/-- A row of the one block times a column of the other. -/
def dot (x0 : Vec Ideal S2048x2048 .bf16) (w : Fin 2048 → Fin 1024 → EReal) (r : Fin 2048) (x : Fin 1024) : EReal :=
  ∑ k : Fin 2048, x0 (ix2 r k) * w k x

section Cases

variable (c : Dev nD) (i : grid0.Coords) (a2 : Memref sig .tc .vmem S2048x2048 .bf16) (h2 : a2.IsWhole) (a3 : Memref sig .tc .vmem S1x1024x2048 .f32) (h3 : a3.IsWhole)
  (a4 : Memref sig .tc .vmem S1x128x2048 .f32) (h4 : a4.IsWhole) (a5 : Memref sig .tc .vmem S2048x1024 .bf16) (h5 : a5.IsWhole)
  (a6 : Memref sig .tc .vmem S128x2048 .bf16) (h6 : a6.IsWhole) (a7 : Memref sig .tc .vmem S1024x2048 .bf16) (h7 : a7.IsWhole)
  (x0 : Vec Ideal S2048x2048 .bf16) (x1 : Vec Ideal S1x1024x2048 .f32) (x2 : Vec Ideal S1x128x2048 .f32) (xs : Vec Ideal S1024x2048 .bf16)

/-- At the first row block of a column block the result is the rows times the weights' window. -/
theorem outA (hc0 : cond0_0 i) (hc1 : ¬cond0_1 i) (r : Fin 2048) (x : Fin 1024) :
    out0_A_3 c i a2 h2 a3 h3 a4 h4 a5 h5 a6 h6 a7 h7 hc0 hc1 x0 x1 x2 (ix2 r x) = dot x0 (fun k x => x1 (ix3 0 x k)) r x := by
  unfold out0_A_3
  rw [View.read_writes_junk_eq_canon]
  unfold kernelRun0_A
  dsimp only
  sl_unfold_words
  refine halves_eq _ _ _ _ _ ?_ ?_ r x
  · intro r x
    simp only [View.readAt_eq_ld, h3.read_unread, h2.read_unread, View.ld_unit_zero (S := S1x1024x2048) hz3]
    pointwise [k0_pay4, k0_pay1, dot]
  · intro r x
    simp only [View.readAt_eq_ld, h3.read_unread, h2.read_unread, View.ld_unit_zero (S := S1x1024x2048) hz3]
    pointwise [k0_pay3, k0_pay1, dot]

/-- At the later row blocks it is the rows times what the scratch holds. -/
theorem outB (hc0 : ¬cond0_0 i) (hc1 : cond0_1 i) (r : Fin 2048) (x : Fin 1024) :
    out0_B_3 c i a2 h2 a3 h3 a4 h4 a5 h5 a6 h6 a7 h7 hc0 hc1 x0 x1 x2 xs (ix2 r x) = dot x0 (fun k x => xs (ix2 x k)) r x := by
  unfold out0_B_3
  rw [View.read_writes_junk_eq_canon]
  unfold kernelRun0_B
  dsimp only
  sl_unfold_words
  refine halves_eq _ _ _ _ _ ?_ ?_ r x
  · intro r x
    simp only [View.readAt_eq_ld, h7.read_unread, h2.read_unread, View.ld_unit_zero (S := S1024x2048) hz2]
    pointwise [k0_pay6, dot]
  · intro r x
    simp only [View.readAt_eq_ld, h7.read_unread, h2.read_unread, View.ld_unit_zero (S := S1024x2048) hz2]
    pointwise [k0_pay5, dot]

/-- At the first row block the scratch takes the weights' window. -/
theorem scratchA (hc0 : cond0_0 i) (hc1 : ¬cond0_1 i) (k : Fin 2048) (x : Fin 1024) :
    sout0_A_0 c i a2 h2 a3 h3 a4 h4 a5 h5 a6 h6 a7 h7 hc0 hc1 x0 x1 x2 (ix2 x k) = x1 (ix3 0 x k) := by
  unfold sout0_A_0
  rw [View.read_writes_junk_eq_canon]
  unfold kernelRun0_A
  dsimp only
  sl_unfold_words
  rw [View.canon_unit_zero (S := S1024x2048) hz2]
  simp only [View.readAt_eq_ld, h3.read_unread, View.ld_unit_zero (S := S1x1024x2048) hz3]
  pointwise [k0_pay2, k0_pay1]

/-- The side cast at the first row block. -/
theorem sideA (hc0 : cond0_0 i) (hc1 : ¬cond0_1 i) (r : Fin 128) (x : Fin 2048) :
    out0_A_4 c i a2 h2 a3 h3 a4 h4 a5 h5 a6 h6 a7 h7 hc0 hc1 x0 x1 x2 (ix2 r x) = x2 (ix3 0 r x) := by
  unfold out0_A_4
  rw [View.read_writes_junk_eq_canon]
  unfold kernelRun0_A
  dsimp only
  sl_unfold_words
  rw [View.canon_unit_zero (S := S128x2048) hz2]
  simp only [View.readAt_eq_ld, h4.read_unread, View.ld_unit_zero (S := S1x128x2048) hz3]
  pointwise [k0_pay7]

/-- The side cast at the later row blocks. -/
theorem sideB (hc0 : ¬cond0_0 i) (hc1 : cond0_1 i) (r : Fin 128) (x : Fin 2048) :
    out0_B_4 c i a2 h2 a3 h3 a4 h4 a5 h5 a6 h6 a7 h7 hc0 hc1 x0 x1 x2 xs (ix2 r x) = x2 (ix3 0 r x) := by
  unfold out0_B_4
  rw [View.read_writes_junk_eq_canon]
  unfold kernelRun0_B
  dsimp only
  sl_unfold_words
  rw [View.canon_unit_zero (S := S128x2048) hz2]
  simp only [View.readAt_eq_ld, h4.read_unread, View.ld_unit_zero (S := S1x128x2048) hz3]
  pointwise [k0_pay7]

end Cases

/-- The normed rows, as launched. -/
abbrev rows (c : Dev nD) : S8192x2048.Idx → EReal := m ((c : Thread nD τ).loc main_arg0)

/-- The weights, as launched. -/
abbrev weights (c : Dev nD) : S1x2048x12320.Idx → EReal := m ((c : Thread nD τ).loc main_arg1)

/-- A column of the result, as a column of the weights: the 32 columns from 6144 on are left out. -/
def skip (x : Fin 12288) : Fin 12320 := ⟨if (x : ℕ) < 6144 then x else x + 32, by split <;> omega⟩

/-- The projection, at a row and a column. -/
def goal (c : Dev nD) (y : S8192x12288.Idx) : EReal := ∑ k : Fin 2048, rows m c (ix2 (y 0) k) * weights m c (ix3 0 k (skip (y 1)))

/-- The cast of the output projection's weights. -/
def goalSide (c : Dev nD) (y : S4096x2048.Idx) : EReal := m ((c : Thread nD τ).loc main_arg2) (ix3 0 (y 0) (y 1))

/-- The grid: twelve blocks of columns times four blocks of rows; each window's block at a point. -/
theorem idx : ∀ t : Fin cfg0.N, win0_0.index t = ![t.val % 4, 0] ∧ win0_1.index t = ![0, if t.val / 4 < 6 then 1024 * (t.val / 4) else 1024 * (t.val / 4) + 32, 0] ∧ win0_2.index t = ![0, min t.val 31, 0]
    ∧ win0_3.index t = ![t.val % 4, t.val / 4] ∧ win0_4.index t = ![min t.val 31, 0] :=
  (by decide +kernel : ∀ t : Fin grid0.N, _)

/-- A row of a grid point's block, as a row of the array. -/
def row (t : Fin cfg0.N) (r : Fin 2048) : Fin 8192 := ⟨2048 * (t.val % 4) + r, by omega⟩

/-- A column of a grid point's block, as a column of the array. -/
def col (t : Fin cfg0.N) (x : Fin 1024) : Fin 12288 :=
  ⟨1024 * (t.val / 4) + x, by have : t.val < 48 := lt_of_lt_of_eq t.isLt N_0; omega⟩

/-- A row of a grid point's side block, as a row of the cast array. -/
def srow (t : Fin cfg0.N) (r : Fin 128) : Fin 4096 := ⟨128 * min t.val 31 + r, by omega⟩

/-- The rows' window. -/
theorem blk0 (c : Dev nD) (t : Fin cfg0.N) (r k : Fin 2048) :
    (iblk m c 0 t : Vec Ideal S2048x2048 .bf16) (ix2 r k) = m ((c : Thread nD τ).loc main_arg0) (ix2 (row t r) k) := by
  blk_ext! [iblk, V, idx t, row]

/-- The weights' window. -/
theorem blk1 (c : Dev nD) (t : Fin cfg0.N) (k : Fin 2048) (x : Fin 1024) :
    (iblk m c 1 t : Vec Ideal S1x1024x2048 .f32) (ix3 0 x k) = m ((c : Thread nD τ).loc main_arg1) (ix3 0 k (skip (col t x))) := by
  have i1 : win0_1.index t 1 = if t.val / 4 < 6 then 1024 * (t.val / 4) else 1024 * (t.val / 4) + 32 := congrFun (idx t).2.1 1
  have i2 : win0_1.index t 2 = 0 := congrFun (idx t).2.1 2
  blk_ext! [iblk, V, idx t, col, skip]
  · show win0_1.index t 2 + 1 * (k : ℕ) = k
    rw [i2]
    omega
  · show win0_1.index t 1 + 1 * (x : ℕ) = _
    rw [i1]
    split <;> split <;> omega

/-- The side cast's window. -/
theorem blk2 (c : Dev nD) (t : Fin cfg0.N) (r : Fin 128) (x : Fin 2048) :
    (iblk m c 2 t : Vec Ideal S1x128x2048 .f32) (ix3 0 r x) = m ((c : Thread nD τ).loc main_arg2) (ix3 0 (srow t r) x) := by
  blk_ext! [iblk, V, idx t, srow]

/-- After every point the scratch holds the weights of the point's columns: the first row block stores them, the later
    ones leave them. -/
theorem scratch_eq (c : Dev nD) (k : Fin 2048) (x : Fin 1024) : ∀ (n : ℕ) (hn : n < cfg0.N),
    (outsAt0 m c n hn).2.2 (ix2 x k) = m ((c : Thread nD τ).loc main_arg1) (ix3 0 k (skip (col ⟨n, hn⟩ x))) := by
  intro n
  induction n with
  | zero =>
    intro hn
    rw [outsAt0_A m c ⟨0, hn⟩ (Nat.zero_mod _) (by show ¬1 ≤ 0 % 4; omega)]
    dsimp only
    rw [scratchA, blk1]
  | succ n ih =>
    intro hn
    by_cases h0 : (n + 1) % 4 = 0
    · rw [outsAt0_A m c ⟨n + 1, hn⟩ h0 (by show ¬1 ≤ (n + 1) % 4; omega)]
      dsimp only
      rw [scratchA, blk1]
    · rw [outsAt0_B m c ⟨n + 1, hn⟩ h0 (by show 1 ≤ (n + 1) % 4; omega)]
      refine (ih (Nat.lt_of_succ_lt hn)).trans ?_
      have e : col ⟨n, Nat.lt_of_succ_lt hn⟩ x = col ⟨n + 1, hn⟩ x := Fin.ext (by show 1024 * (n / 4) + (x : ℕ) = 1024 * ((n + 1) / 4) + x; omega)
      rw [e]

/-- A grid point's block of the projection. -/
theorem block_eq (c : Dev nD) (t : Fin cfg0.N) (r : Fin 2048) (x : Fin 1024) :
    (outsAt0 m c t.val t.isLt).1 (ix2 r x) = goal m c (ix2 (row t r) (col t x)) := by
  by_cases h0 : t.val % 4 = 0
  · rw [outsAt0_A m c t h0 (by omega)]
    dsimp only
    rw [outA]
    simp only [dot, blk0, blk1]
    rfl
  · rw [outsAt0_B m c t h0 (by omega)]
    dsimp only
    rw [outB]
    have hp : t.val - 1 < cfg0.N := Nat.lt_of_le_of_lt (Nat.sub_le _ _) t.isLt
    have e : col ⟨t.val - 1, hp⟩ x = col t x := Fin.ext (by show 1024 * ((t.val - 1) / 4) + (x : ℕ) = 1024 * (t.val / 4) + x; omega)
    simp only [dot, blk0, scratch_eq, e]
    rfl

/-- A grid point's block of the side cast. -/
theorem side_eq (c : Dev nD) (t : Fin cfg0.N) (r : Fin 128) (x : Fin 2048) :
    (outsAt0 m c t.val t.isLt).2.1 (ix2 r x) = goalSide m c (ix2 (srow t r) x) := by
  by_cases h0 : t.val % 4 = 0
  · rw [outsAt0_A m c t h0 (by omega)]
    dsimp only
    rw [sideA, blk2]
    rfl
  · rw [outsAt0_B m c t h0 (by omega)]
    dsimp only
    rw [sideB, blk2]
    rfl

/-- The projection the kernel leaves, at every index. -/
theorem arr_eq (c : Dev nD) : (dats m 0 c).arrAt 3 cfg0.N = goal m c := by
  refine (dats m 0 c).arrAt_eq_of_covers 3 _ (by decide +kernel) fun t hf y => ?_
  have ht : t.val < 48 := lt_of_lt_of_eq t.isLt N_0
  blk_simp
  rw [after0_3]
  obtain ⟨r, x, rfl⟩ : ∃ (a : Fin 2048) (z : Fin 1024), y = (ix2 a z : S2048x1024.Idx) :=
    ⟨y 0, y 1, funext fun i => by fin_cases i <;> rfl⟩
  rw [block_eq m c t r x]
  refine congrArg (goal m c) (funext fun a => Fin.ext ?_)
  fin_cases a
  · show (row t r : ℕ) = _
    blk_simp [idx t, row]
    try simp
    try omega
  · show (col t x : ℕ) = _
    blk_simp [idx t, col]
    try simp
    try omega

/-- The cast the kernel leaves, at every index. -/
theorem arr_side_eq (c : Dev nD) : (dats m 0 c).arrAt 4 cfg0.N = goalSide m c := by
  refine (dats m 0 c).arrAt_eq_of_covers 4 _ (by decide +kernel) fun t hf y => ?_
  have ht : t.val < 48 := lt_of_lt_of_eq t.isLt N_0
  blk_simp
  rw [after0_4]
  obtain ⟨r, x, rfl⟩ : ∃ (a : Fin 128) (z : Fin 2048), y = (ix2 a z : S128x2048.Idx) :=
    ⟨y 0, y 1, funext fun i => by fin_cases i <;> rfl⟩
  rw [side_eq m c t r x]
  refine congrArg (goalSide m c) (funext fun a => Fin.ext ?_)
  fin_cases a
  · show (srow t r : ℕ) = _
    blk_simp [idx t, srow]
    try simp
    try omega
  · show (x : ℕ) = _
    blk_simp [idx t]
    try simp

end Cert.Kernel3Ideal.InProj

namespace Cert.Reference3Ideal.InProj

open Cert.Reference3Ideal Cert.Reference3Ideal.Gen Idealize.ShloMosaic Idealize.ShloMosaic.Pointwise Idealize.SL.Sem

/-- The whole projection, with the time steps. -/
def whole (h : Vec Ideal S8192x2048 .f32) (w : Vec Ideal S1x2048x12320 .f32) : FVec Ideal S8192x12320 .f32 :=
  Host.dotGeneral (F := Ideal) (φ₁ := .f32) (φ₂ := .f32) dot_S8192x2048_S2048x12320_S8192x12320_1_0_0_1_n_n none h
    (shapeCast _ w shapeCasts_S1x2048x12320_S2048x12320)

/-- The projection without the time steps. -/
def kept (P : FVec Ideal S8192x12320 .f32) : FVec Ideal S8192x12288 .bf16 :=
  truncf .bf16 (concatenate S8192x12288 1 [⟨S8192x2048, extractStridedSlice S8192x2048 ![0, 0] P slices_S8192x12320_S8192x2048_0_0⟩,
    ⟨S8192x4096, extractStridedSlice S8192x4096 ![0, 2048] P slices_S8192x12320_S8192x4096_0_2048⟩,
    ⟨S8192x2048, extractStridedSlice S8192x2048 ![0, 6176] P slices_S8192x12320_S8192x2048_0_6176⟩,
    ⟨S8192x2048, extractStridedSlice S8192x2048 ![0, 8224] P slices_S8192x12320_S8192x2048_0_8224⟩,
    ⟨S8192x2048, extractStridedSlice S8192x2048 ![0, 10272] P slices_S8192x12320_S8192x2048_0_10272⟩]
    concatenates_S8192x2048_S8192x4096_S8192x2048_S8192x2048_S8192x2048_S8192x12288_d1) bitsLt_bf16_f32

/-- The whole projection, at an index. -/
theorem whole_eq (h : Vec Ideal S8192x2048 .f32) (w : Vec Ideal S1x2048x12320 .f32) (r : Fin 8192) (x : Fin 12320) :
    whole h w (ix2 r x) = ∑ k : Fin 2048, h (ix2 r k) * w (ix3 0 k x) := by
  pointwise [whole]

/-- The kept part, at an index. -/
theorem kept_eq (P : FVec Ideal S8192x12320 .f32) (r : Fin 8192) (x : Fin 12288) :
    kept P (ix2 r x) = P (ix2 r (Cert.Kernel3Ideal.InProj.skip x)) := by
  pointwise [kept]
  have hx := x.isLt
  split_ifs <;> refine congrArg (fun z => P (ix2 r z)) (Fin.ext ?_) <;> simp only [Cert.Kernel3Ideal.InProj.skip] <;> split <;> omega

/-- The reference's cast, at an index. -/
theorem side_eq (w : FVec Ideal S1x4096x2048 .f32) (r : Fin 4096) (x : Fin 2048) :
    truncf .bf16 (shapeCast S4096x2048 w shapeCasts_S1x4096x2048_S4096x2048) bitsLt_bf16_f32 (ix2 r x) = w (ix3 0 r x) := by
  pointwise []

end Cert.Reference3Ideal.InProj

end
-- ==== Proof.OutProj.lean ====
/- The output projection with the final norm: the kernel's result array and the reference's, read at an index, are one
   number. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit.Point

@[expose] public section

set_option maxRecDepth 16384

noncomputable section

namespace Cert.OutProj

open Idealize.ShloMosaic Idealize.ShloMosaic.Pointwise

/-- A sum over 4096 positions is the sum over the first half plus the sum over the second. -/
theorem sum_halves (f : Fin 4096 → EReal) :
    ∑ k : Fin 4096, f k = ∑ k : Fin 2048, f ⟨k, by omega⟩ + ∑ k : Fin 2048, f ⟨2048 + k, by omega⟩ :=
  Fin.sum_univ_add (a := 2048) (b := 2048) f

/-- The residual stream after the projection, at a row and a column. -/
def resid (o : Vec Ideal ⟨2, ![8192, 4096]⟩ .f32) (w : Vec Ideal ⟨3, ![1, 4096, 2048]⟩ .f32) (h : Vec Ideal ⟨2, ![8192, 2048]⟩ .f32)
    (r : Fin 8192) (x : Fin 2048) : EReal :=
  h (ix2 r x) + ∑ k : Fin 4096, o (ix2 r k) * w (ix3 0 k x)

/-- A row divided by its root mean square, times the norm's weights. -/
def normed (a g : Fin 2048 → EReal) (x : Fin 2048) : EReal :=
  a x * Ideal.rsqrt (Ideal.div (∑ k : Fin 2048, a k * a k) (Ideal.ofBits .f32 0x45000000#32) + Ideal.ofBits .f32 0x358637BD#32) * g x

end Cert.OutProj

namespace Cert.Kernel4Ideal.OutProj

open Cert.Kernel4Ideal Cert.Kernel4Ideal.Gen Cert.OutProj Idealize.ShloMosaic Idealize.ShloMosaic.TcCoe Idealize.ShloMosaic.Pointwise Idealize.SL.Sem
open Idealize.ShloMosaic.Pipeline (Dat)

variable (m : (ℓ : Loc nD τ sig) → Buf (Elt Ideal) ℓ)

/-- The result array: each row of the residual stream, normed. -/
def goal (c : Dev nD) (y : S8192x2048.Idx) : EReal :=
  normed (resid (m ((c : Thread nD τ).loc main_arg0)) (m ((c : Thread nD τ).loc main_arg1)) (m ((c : Thread nD τ).loc main_arg2)) (y 0))
    (fun x => m ((c : Thread nD τ).loc main_arg3) (ix1 x)) (y 1)

/-- The grid: sixteen blocks of rows; each window's block at a point. -/
theorem idx : ∀ t : Fin cfg0.N, win0_0.index t = ![t.val, 0] ∧ win0_1.index t = ![t.val, 1] ∧ win0_2.index t = ![0, 0]
    ∧ win0_3.index t = ![1, 0] ∧ win0_4.index t = ![t.val, 0] ∧ win0_5.index t = ![0, 0] ∧ win0_6.index t = ![t.val, 0] :=
  (by decide +kernel : ∀ t : Fin grid0.N, _)

/-- A row of a grid point's block, as a row of the array. -/
def row (t : Fin cfg0.N) (r : Fin 512) : Fin 8192 :=
  ⟨512 * t.val + r, by have : t.val < 16 := lt_of_lt_of_eq t.isLt N_0; omega⟩

/-- The window over the first half of the attention's columns. -/
theorem blk0 (c : Dev nD) (t : Fin cfg0.N) (r : Fin 512) (k : Fin 2048) :
    (iblk m c 0 t : Vec Ideal S512x2048 .bf16) (ix2 r k) = m ((c : Thread nD τ).loc main_arg0) (ix2 (row t r) ⟨k, by omega⟩) := by
  blk_ext! [iblk, V, idx t, row]

/-- The window over the second half. -/
theorem blk1 (c : Dev nD) (t : Fin cfg0.N) (r : Fin 512) (k : Fin 2048) :
    (iblk m c 1 t : Vec Ideal S512x2048 .bf16) (ix2 r k) = m ((c : Thread nD τ).loc main_arg0) (ix2 (row t r) ⟨2048 + k, by omega⟩) := by
  blk_ext! [iblk, V, idx t, row]

/-- The weights of the first half, whole at every point. -/
theorem blk2 (c : Dev nD) (t : Fin cfg0.N) (k : Fin 2048) (x : Fin 2048) :
    (iblk m c 2 t : Vec Ideal S2048x2048 .bf16) (ix2 k x) = m ((c : Thread nD τ).loc main_arg1) (ix3 0 ⟨k, by omega⟩ x) := by
  blk_ext! [iblk, V, idx t]

/-- The weights of the second half, whole at every point. -/
theorem blk3 (c : Dev nD) (t : Fin cfg0.N) (k : Fin 2048) (x : Fin 2048) :
    (iblk m c 3 t : Vec Ideal S2048x2048 .bf16) (ix2 k x) = m ((c : Thread nD τ).loc main_arg1) (ix3 0 ⟨2048 + k, by omega⟩ x) := by
  blk_ext! [iblk, V, idx t]

/-- The residual stream's window. -/
theorem blk4 (c : Dev nD) (t : Fin cfg0.N) (r : Fin 512) (x : Fin 2048) :
    (iblk m c 4 t : Vec Ideal S512x2048 .f32) (ix2 r x) = m ((c : Thread nD τ).loc main_arg2) (ix2 (row t r) x) := by
  blk_ext! [iblk, V, idx t, row]

/-- The norm's weights, whole at every point. -/
theorem blk5 (c : Dev nD) (t : Fin cfg0.N) (x : Fin 2048) :
    (iblk m c 5 t : Vec Ideal S1x2048 .f32) (ix2 0 x) = m ((c : Thread nD τ).loc main_arg3) (ix1 x) := by
  blk_ext! [iblk, V, idx t]

/-- A grid point's payload at a row and a column. -/
theorem pay_eq (v0 : Vec Ideal S512x2048 .f32) (v1 : Vec Ideal S512x2048 .bf16) (v3 : Vec Ideal S2048x2048 .bf16)
    (v6 : Vec Ideal S512x2048 .bf16) (v8 : Vec Ideal S2048x2048 .bf16) (v23 : Vec Ideal S1x2048 .f32) (r : Fin 512) (x : Fin 2048) :
    k0_pay1 v0 v1 v3 v6 v8 v23 (ix2 r x)
      = normed (fun z => v0 (ix2 r z) + (∑ k : Fin 2048, v1 (ix2 r k) * v3 (ix2 k z) + ∑ k : Fin 2048, v6 (ix2 r k) * v8 (ix2 k z)))
          (fun z => v23 (ix2 0 z)) x := by
  pointwise [k0_pay1, normed]

/-- A grid point's block of the result, at a row and a column. -/
theorem block_eq (c : Dev nD) (t : Fin cfg0.N) (r : Fin 512) (x : Fin 2048) :
    out0_6 (iblk m c 0 t) (iblk m c 1 t) (iblk m c 2 t) (iblk m c 3 t) (iblk m c 4 t) (iblk m c 5 t) (ix2 r x)
      = goal m c (ix2 (row t r) x) := by
  rw [out0_6]
  refine (View.canon_eq_of_allAt _ (ix2 r x) (k0_pay1 (View.ld (iblk m c 4 t) r0_0) (View.ld (iblk m c 0 t) r0_0)
    (View.ld (iblk m c 2 t) r0_1) (View.ld (iblk m c 1 t) r0_0) (View.ld (iblk m c 3 t) r0_1) (View.ld (iblk m c 5 t) r0_2) (ix2 r x))
    (cover0_6 _ _) ?_).trans ?_
  · intro p hp y hy
    obtain rfl := List.mem_singleton.mp hp
    obtain ⟨a, z, rfl⟩ : ∃ (a : Fin 512) (z : Fin 2048), y = (ix2 a z : S512x2048.Idx) :=
      ⟨y 0, y 1, funext fun i => by fin_cases i <;> rfl⟩
    have e1 : 0 + 1 * (a : ℕ) = r := congrArg (fun z : S512x2048.Idx => (z 0 : ℕ)) hy
    have e2 : 0 + 1 * (z : ℕ) = x := congrArg (fun z : S512x2048.Idx => (z 1 : ℕ)) hy
    obtain rfl : a = r := Fin.ext (by omega)
    obtain rfl : z = x := Fin.ext (by omega)
    rfl
  · rw [pay_eq]
    pointwise [goal, normed, resid]
    simp only [blk0, blk1, blk2, blk3, blk4, blk5, sum_halves]

/-- The kernel's result array, at every index. -/
theorem arr_eq (c : Dev nD) : (dats m 0 c).arrAt 6 cfg0.N = goal m c := by
  refine (dats m 0 c).arrAt_eq_of_covers 6 _ (by decide +kernel) fun t hf y => ?_
  have ht : t.val < 16 := lt_of_lt_of_eq t.isLt N_0
  blk_simp
  rw [after0_6]
  obtain ⟨r, x, rfl⟩ : ∃ (a : Fin 512) (z : Fin 2048), y = (ix2 a z : S512x2048.Idx) :=
    ⟨y 0, y 1, funext fun i => by fin_cases i <;> rfl⟩
  rw [block_eq m c t r x]
  refine congrArg (goal m c) (funext fun a => Fin.ext ?_)
  fin_cases a
  · show (row t r : ℕ) = _
    blk_simp [idx t, row]
    try simp
    try omega
  · show (x : ℕ) = _
    blk_simp [idx t]
    try simp

end Cert.Kernel4Ideal.OutProj

namespace Cert.Reference4Ideal.OutProj

open Cert.Reference4Ideal Cert.Reference4Ideal.Gen Cert.OutProj Idealize.ShloMosaic Idealize.ShloMosaic.Pointwise Idealize.SL.Sem

/-- The residual stream after the projection. -/
def added (o : Vec Ideal S8192x4096 .f32) (w : Vec Ideal S1x4096x2048 .f32) (h : Vec Ideal S8192x2048 .f32) : FVec Ideal S8192x2048 .f32 :=
  addf h (Host.dotGeneral (φ₁ := .f32) (φ₂ := .f32) dot_S8192x4096_S4096x2048_S8192x2048_1_0_0_1_n_n none o (shapeCast _ w shapeCasts_S1x4096x2048_S4096x2048))

/-- Its norm. -/
def result (a : FVec Ideal S8192x2048 .f32) (g : Vec Ideal S2048 .f32) : FVec Ideal S8192x2048 .f32 :=
  mulf (mulf a (broadcastInDim S8192x2048 ![0, 1] bcast_S8192x1_S8192x2048_0_1 (Host.rsqrt (addf (Host.divf (broadcastInDim S8192x1 ![0] bcast_S8192_S8192x1_0
    (Host.reduceAdd (mulf a a) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The residual stream after the projection, at an index. -/
theorem added_eq (o : Vec Ideal S8192x4096 .f32) (w : Vec Ideal S1x4096x2048 .f32) (h : Vec Ideal S8192x2048 .f32) (r : Fin 8192) (x : Fin 2048) :
    added o w h (ix2 r x) = resid o w h r x := by
  pointwise [added, resid]

/-- Its norm, at an index. -/
theorem result_eq (a : FVec Ideal S8192x2048 .f32) (g : Vec Ideal S2048 .f32) (r : Fin 8192) (x : Fin 2048) :
    result a g (ix2 r x) = normed (fun z => a (ix2 r z)) (fun z => g (ix1 z)) x := by
  pointwise [result, normed]

end Cert.Reference4Ideal.OutProj

namespace Cert.Proof

open Idealize.ShloMosaic Idealize.ShloMosaic.TcCoe Idealize.ShloMosaic.Pointwise Idealize.SL.Sem

/-- The reference's result array is the array the kernel leaves, of the same arguments. -/
theorem ref_goal4 (m : (ℓ : Loc Cert.Kernel4Ideal.nD Cert.Kernel4Ideal.τ Cert.Kernel4Ideal.sig) → Buf (Elt Ideal) ℓ)
    (c : Dev Cert.Kernel4Ideal.nD) :
    Cert.Reference4Ideal.OutProj.result (Cert.Reference4Ideal.OutProj.added
        (m ((c : Thread Cert.Kernel4Ideal.nD Cert.Kernel4Ideal.τ).loc Cert.Kernel4Ideal.main_arg0))
        (m ((c : Thread Cert.Kernel4Ideal.nD Cert.Kernel4Ideal.τ).loc Cert.Kernel4Ideal.main_arg1))
        (m ((c : Thread Cert.Kernel4Ideal.nD Cert.Kernel4Ideal.τ).loc Cert.Kernel4Ideal.main_arg2)))
      (m ((c : Thread Cert.Kernel4Ideal.nD Cert.Kernel4Ideal.τ).loc Cert.Kernel4Ideal.main_arg3)) = Cert.Kernel4Ideal.OutProj.goal m c := by
  funext y
  obtain ⟨r, x, rfl⟩ : ∃ (a : Fin 8192) (z : Fin 2048), y = (ix2 a z : Cert.Kernel4Ideal.S8192x2048.Idx) :=
    ⟨y 0, y 1, funext fun i => by fin_cases i <;> rfl⟩
  refine (Cert.Reference4Ideal.OutProj.result_eq _ _ r x).trans ?_
  simp only [Cert.Reference4Ideal.OutProj.added_eq]
  rfl

end Cert.Proof

end
-- ==== Proof.ClaimsProj.lean ====
/- The claims on the projections: the two input projections and the output projection with the final norm. -/
module

public import proofs.«01_k».proof.Defs
public import proofs.«01_k».proof.Proof.InProjEven
public import proofs.«01_k».proof.Proof.OutProj
public import proofs.«01_k».proof.Proof.Gen.Kernel2.Frame
public import proofs.«01_k».proof.Proof.Gen.Kernel3.Frame
public import proofs.«01_k».proof.Proof.Gen.Kernel4.Frame
public import Idealize.ShloMosaic.Lib.Quiescent

@[expose] public section

noncomputable section

namespace Cert.Proof

open Idealize.ShloMosaic Idealize.ShloMosaic.TcCoe Idealize.ShloMosaic.Pointwise Idealize.SL.Sem

/-! ## The odd layer's input projection -/

/-- The kernel as printed, on machine words, runs and changes no argument. -/
theorem frame_p2 : Cert.quiescent_Kernel2 := fun m ρ _ => Cert.Kernel2.Gen.frame m ρ

/-- So does the kernel on the extended reals. -/
theorem frame_pi2 : Cert.quiescent_Kernel2Ideal := fun m ρ _ => Cert.Kernel2Ideal.Gen.frame m ρ

/-- The reference runs, changes no argument and has no semaphores. -/
theorem frame_ri2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- No operation is rewritten. -/
theorem preserves2 : Cert.preserves_Kernel2_Kernel2Ideal := trivial

/-- On the extended reals the kernel and the reference leave one projection and one cast array. -/
theorem algebraic2 : Cert.algebraic_Kernel2Ideal_Reference2Ideal := by
  intro m ρ m' ρ' _ hagree
  refine ⟨fun c => Cert.Kernel2Ideal.InProj.goal m c, fun c => Cert.Kernel2Ideal.InProj.goalSide m c,
    (θ_run Cert.Kernel2Ideal.defs _ _).mono (fun _ h c => ⟨(h c).1.trans (Cert.Kernel2Ideal.InProj.arr_eq m c), (h c).2.1.trans (Cert.Kernel2Ideal.InProj.arr_side_eq m c), (h c).2.2⟩)
      (Cert.Kernel2Ideal.Value.run_blocks m ρ),
    (θ_run Cert.Reference2Ideal.defs _ _).mono (fun _ h c => ⟨(h c).1.trans ?_, (h c).2.1.trans ?_, (h c).2.2⟩)
      (Cert.Reference2Ideal.Value.run (F := Ideal) m' ρ')⟩
  · obtain ⟨e0, e1, -⟩ := hagree c
    rw [e0, e1]
    funext y
    obtain ⟨r, x, rfl⟩ : ∃ (a : Fin 8192) (z : Fin 16384), y = (ix2 a z : Cert.Kernel2Ideal.S8192x16384.Idx) :=
      ⟨y 0, y 1, funext fun i => by fin_cases i <;> rfl⟩
    exact Cert.Reference2Ideal.InProj.proj_eq (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) r x
  · obtain ⟨-, -, e2⟩ := hagree c
    rw [e2]
    funext y
    obtain ⟨r, x, rfl⟩ : ∃ (a : Fin 4096) (z : Fin 2048), y = (ix2 a z : Cert.Kernel2Ideal.S4096x2048.Idx) :=
      ⟨y 0, y 1, funext fun i => by fin_cases i <;> rfl⟩
    exact Cert.Reference2Ideal.InProj.side_eq (m ((c : Thread Cert.Kernel2Ideal.nD Cert.Kernel2Ideal.τ).loc Cert.Kernel2Ideal.main_arg2)) r x

/-! ## The even layer's input projection -/

/-- The kernel as printed, on machine words, runs and changes no argument. -/
theorem frame_p3 : Cert.quiescent_Kernel3 := fun m ρ _ => Cert.Kernel3.Gen.frame m ρ

/-- So does the kernel on the extended reals. -/
theorem frame_pi3 : Cert.quiescent_Kernel3Ideal := fun m ρ _ => Cert.Kernel3Ideal.Gen.frame m ρ

/-- The reference runs, changes no argument and has no semaphores. -/
theorem frame_ri3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- No operation is rewritten. -/
theorem preserves3 : Cert.preserves_Kernel3_Kernel3Ideal := trivial

/-- On the extended reals the kernel and the reference leave one projection and one cast array. -/
theorem algebraic3 : Cert.algebraic_Kernel3Ideal_Reference3Ideal := by
  intro m ρ m' ρ' _ hagree
  refine ⟨fun c => Cert.Kernel3Ideal.InProj.goal m c, fun c => Cert.Kernel3Ideal.InProj.goalSide m c,
    (θ_run Cert.Kernel3Ideal.defs _ _).mono (fun _ h c => ⟨(h c).1.trans (Cert.Kernel3Ideal.InProj.arr_eq m c), (h c).2.1.trans (Cert.Kernel3Ideal.InProj.arr_side_eq m c), (h c).2.2⟩)
      (Cert.Kernel3Ideal.Value.run_blocks m ρ),
    (θ_run Cert.Reference3Ideal.defs _ _).mono (fun _ h c => ⟨(h c).1.trans ?_, (h c).2.1.trans ?_, (h c).2.2⟩)
      (Cert.Reference3Ideal.Value.run (F := Ideal) m' ρ')⟩
  · obtain ⟨e0, e1, -⟩ := hagree c
    rw [e0, e1]
    funext y
    obtain ⟨r, x, rfl⟩ : ∃ (a : Fin 8192) (z : Fin 12288), y = (ix2 a z : Cert.Kernel3Ideal.S8192x12288.Idx) :=
      ⟨y 0, y 1, funext fun i => by fin_cases i <;> rfl⟩
    exact (Cert.Reference3Ideal.InProj.kept_eq (Cert.Reference3Ideal.InProj.whole (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))) r x).trans (Cert.Reference3Ideal.InProj.whole_eq (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) r _)
  · obtain ⟨-, -, e2⟩ := hagree c
    rw [e2]
    funext y
    obtain ⟨r, x, rfl⟩ : ∃ (a : Fin 4096) (z : Fin 2048), y = (ix2 a z : Cert.Kernel3Ideal.S4096x2048.Idx) :=
      ⟨y 0, y 1, funext fun i => by fin_cases i <;> rfl⟩
    exact Cert.Reference3Ideal.InProj.side_eq (m ((c : Thread Cert.Kernel3Ideal.nD Cert.Kernel3Ideal.τ).loc Cert.Kernel3Ideal.main_arg2)) r x

/-! ## The output projection with the final norm -/

/-- The kernel as printed, on machine words, runs and changes no argument. -/
theorem frame_p4 : Cert.quiescent_Kernel4 := fun m ρ _ => Cert.Kernel4.Gen.frame m ρ

/-- So does the kernel on the extended reals. -/
theorem frame_pi4 : Cert.quiescent_Kernel4Ideal := fun m ρ _ => Cert.Kernel4Ideal.Gen.frame m ρ

/-- The reference runs, changes no argument and has no semaphores. -/
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- No operation is rewritten. -/
theorem preserves4 : Cert.preserves_Kernel4_Kernel4Ideal := trivial

/-- On the extended reals the kernel and the reference leave one result array. -/
theorem algebraic4 : Cert.algebraic_Kernel4Ideal_Reference4Ideal := by
  intro m ρ m' ρ' _ hagree
  refine ⟨fun c => Cert.Kernel4Ideal.OutProj.goal m c,
    (θ_run Cert.Kernel4Ideal.defs _ _).mono (fun _ h c => ⟨(h c).1.trans (Cert.Kernel4Ideal.OutProj.arr_eq m c), (h c).2⟩)
      (Cert.Kernel4Ideal.Value.run_blocks m ρ),
    (θ_run Cert.Reference4Ideal.defs _ _).mono (fun _ h c => ⟨(h c).1.trans ?_, (h c).2⟩)
      (Cert.Reference4Ideal.Value.run (F := Ideal) m' ρ')⟩
  obtain ⟨e0, e1, e2, e3⟩ := hagree c
  rw [e0, e1, e2, e3]
  exact ref_goal4 m c

end Cert.Proof

end
-- ==== Proof.SguPieces.lean ====
/- The gating kernel's stores are instances of two functions: thirty-two gate blocks, one for each group of columns and
   each chunk of rows, and eight column pieces of the residual plus the first half of the projection. -/
module

public import proofs.«01_k».proof.Proof.Gen.Kernel5Ideal.Value

@[expose] public section

set_option maxRecDepth 65536

noncomputable section

namespace Cert.Kernel5Ideal.Sgu

open Cert.Kernel5Ideal Cert.Kernel5Ideal.Gen Idealize.ShloMosaic Idealize.SL.Sem

variable {F : FTy → Type} [FloatOps F] [Named F]

/-- Half of the loaded block. -/
def half (u : Vec F S128x128 .bf16) : FVec F S128x128 .f32 :=
  mulf (broadcast S128x128 (Scalar.ofBits .f32 0x3F000000#32)) (extf .f32 (shapeCast S128x128 u shapeCasts_S128x128_S128x128) bitsLt_bf16_f32)

/-- The kernel's gelu of a block. -/
def gel (u : Vec F S128x128 .bf16) : FVec F S128x128 .f32 :=
  addf (half u) (mulf (half u) (tanh (mulf (extf .f32 (shapeCast S128x128 u shapeCasts_S128x128_S128x128) bitsLt_bf16_f32)
    (addf (broadcast S128x128 (Scalar.ofBits .f32 0x3F4C422A#32)) (mulf (broadcast S128x128 (Named.named κ "gelu_cubic" 0x3D122279#32))
      (mulf (extf .f32 (shapeCast S128x128 u shapeCasts_S128x128_S128x128) bitsLt_bf16_f32)
        (extf .f32 (shapeCast S128x128 u shapeCasts_S128x128_S128x128) bitsLt_bf16_f32)))))))

/-- The kernel's silu of a block. -/
def sil (z : Vec F S128x128 .bf16) : FVec F S128x128 .f32 :=
  addf (half z) (mulf (half z) (tanh (half z)))

/-- The rows and columns of a chunk and a group are inside the block. -/
theorem inG (g : Fin 16) (b : Fin 2) (a : Fin 2) : (![128 * (b : ℕ), 128 * (g : ℕ)] : Fin 2 → Nat) a + S128x128.size a ≤ S256x2048.size a := by
  have := g.isLt; have := b.isLt
  fin_cases a
  · show 128 * (b : ℕ) + 128 ≤ 256; omega
  · show 128 * (g : ℕ) + 128 ≤ 2048; omega

/-- A group's mixing matrix is inside the stack of matrices. -/
theorem inW (g : Fin 16) (a : Fin 3) : (![(g : ℕ), 0, 0] : Fin 3 → Nat) a + S1x128x128.size a ≤ S16x128x128.size a := by
  have := g.isLt
  fin_cases a
  · show (g : ℕ) + 1 ≤ 16; omega
  · show 0 + 128 ≤ 128; omega
  · show 0 + 128 ≤ 128; omega

/-- A group's column of biases is inside the matrix of biases. -/
theorem inB (g : Fin 16) (a : Fin 2) : (![0, (g : ℕ)] : Fin 2 → Nat) a + S128x1.size a ≤ S128x16.size a := by
  have := g.isLt
  fin_cases a
  · show 0 + 128 ≤ 128; omega
  · show (g : ℕ) + 1 ≤ 16; omega

/-- The values of a group, the two chunks side by side. -/
def vals (v : FVec F S256x2048 .bf16) (g : Fin 16) : FVec F S128x256 .bf16 :=
  concatenate S128x256 1 [⟨S128x128, extractStridedSlice S128x128 ![128 * ((0 : Fin 2) : ℕ), 128 * (g : ℕ)] v ⟨rfl, inG g 0⟩⟩,
    ⟨S128x128, extractStridedSlice S128x128 ![128 * ((1 : Fin 2) : ℕ), 128 * (g : ℕ)] v ⟨rfl, inG g 1⟩⟩] concatenates_S128x128_S128x128_S128x256_d1

/-- A group's mixing: the lower triangle of its matrix times the values, plus its bias. -/
def mixg (v : FVec F S256x2048 .bf16) (w : Vec F S1x128x128 .f32) (bias : Vec F S128x1 .f32) (g : Fin 16) : FVec F S128x256 .f32 :=
  addf (matmul dot_S128x128_S128x256_S128x256_1_0_0_1_n_n none
      (truncf .bf16 (select (cmpi .sle (iota .tc S128x128 32 [1] iota_S128x128_d1_w32) (iota .tc S128x128 32 [0] iota_S128x128_d0_w32))
        (shapeCast S128x128 w shapeCasts_S1x128x128_S128x128) (broadcast S128x128 (Scalar.ofBits .f32 0x00000000#32))) bitsLt_bf16_f32)
      (vals v g) (constant S128x256 .f32 0x00000000#32))
    (broadcastTo S128x256 (shapeCast S128x1 bias shapeCasts_S128x1_S128x1) broadcasts_S128x1_S128x256)

/-- A chunk's columns of a group's mixing. -/
theorem inM (b : Fin 2) : S128x256.Slices ![0, 128 * (b : ℕ)] S128x128 :=
  ⟨rfl, fun a => by
    have := b.isLt
    fin_cases a
    · show 0 + 128 ≤ 128; omega
    · show 128 * (b : ℕ) + 128 ≤ 256; omega⟩

/-- The gate block: gelu of the block, times the mixed values, times the silu of the gate. -/
def gate (u z : Vec F S128x128 .bf16) (mx : FVec F S128x256 .f32) (b : Fin 2) : FVec F S128x128 .bf16 :=
  shapeCast S128x128 (truncf .bf16 (mulf (mulf (gel u) (extractStridedSlice S128x128 ![0, 128 * (b : ℕ)] mx (inM b))) (sil z)) bitsLt_bf16_f32)
    shapeCasts_S128x128_S128x128

section Reads

variable (c : Dev nD) (a1 : Memref sig .tc .vmem S256x2048 .bf16) (h1 : a1.IsWhole) (a2 : Memref sig .tc .vmem S256x2048 .bf16) (h2 : a2.IsWhole)
  (a3 : Memref sig .tc .vmem S256x2048 .bf16) (h3 : a3.IsWhole) (a4 : Memref sig .tc .vmem S256x2048 .bf16) (h4 : a4.IsWhole)
  (a5 : Memref sig .tc .vmem S1x2048 .f32) (h5 : a5.IsWhole) (a6 : Memref sig .tc .vmem S1x2048 .f32) (h6 : a6.IsWhole)
  (a7 : Memref sig .tc .vmem S16x128x128 .f32) (h7 : a7.IsWhole) (a8 : Memref sig .tc .vmem S128x16 .f32) (h8 : a8.IsWhole)
  (a9 : Memref sig .tc .vmem S2048x2048 .bf16) (h9 : a9.IsWhole) (a11 : Memref sig .tc .vmem S256x2048 .f32) (h11 : a11.IsWhole)
  (x0 x1 x2 x3 : Vec F S256x2048 .bf16) (x4 x5 : Vec F S1x2048 .f32) (x6 : Vec F S16x128x128 .f32) (x7 : Vec F S128x16 .f32)
  (x8 : Vec F S2048x2048 .bf16) (x10 : Vec F S256x2048 .f32)

/-- The normed values. -/
def vnorm : FVec F S256x2048 .bf16 :=
  k0_pay2 (View.readAt (Elt F) a4.view (Rect.unit (s := S256x2048) ![0, 0] S256x2048.size inb_S256x2048_S256x2048_0_0).toLoadRect (h4.unread x3))
    (View.readAt (Elt F) a5.view (Rect.unit (s := S1x2048) ![0, 0] S1x2048.size inb_S1x2048_S1x2048_0_0).toLoadRect (h5.unread x4))
    (View.readAt (Elt F) a6.view (Rect.unit (s := S1x2048) ![0, 0] S1x2048.size inb_S1x2048_S1x2048_0_0).toLoadRect (h6.unread x5))

/-- A group's mixing, of the loaded blocks. -/
def mixl (g : Fin 16) : FVec F S128x256 .f32 :=
  mixg (vnorm a4 h4 a5 h5 a6 h6 x3 x4 x5) (View.readAt (Elt F) a7.view (Rect.unit (s := S16x128x128) ![(g : ℕ), 0, 0] S1x128x128.size (inW g)).toLoadRect (h7.unread x6))
    (View.readAt (Elt F) a8.view (Rect.unit (s := S128x16) ![0, (g : ℕ)] S128x1.size (inB g)).toLoadRect (h8.unread x7)) g

/-- The store of a gate block. -/
def gst (g : Fin 16) (b : Fin 2) : View.Piece (Elt F) S256x2048 .bf16 :=
  ⟨Rect.unit (s := S256x2048) ![128 * (b : ℕ), 128 * (g : ℕ)] S128x128.size (inG g b),
    gate (View.readAt (Elt F) a3.view (Rect.unit (s := S256x2048) ![128 * (b : ℕ), 128 * (g : ℕ)] S128x128.size (inG g b)).toLoadRect (h3.unread x2))
      (View.readAt (Elt F) a2.view (Rect.unit (s := S256x2048) ![128 * (b : ℕ), 128 * (g : ℕ)] S128x128.size (inG g b)).toLoadRect (h2.unread x1))
      (mixl a4 h4 a5 h5 a6 h6 a7 h7 a8 h8 x3 x4 x5 x6 x7 g) b⟩

/-- The groups and chunks in the order the stores are listed. -/
def gidx : List (Fin 16 × Fin 2) :=
  [(15, 1), (15, 0), (14, 1), (14, 0), (13, 1), (13, 0), (12, 1), (12, 0), (11, 1), (11, 0), (10, 1), (10, 0), (9, 1), (9, 0),
    (8, 1), (8, 0), (7, 1), (7, 0), (6, 1), (6, 0), (5, 1), (5, 0), (4, 1), (4, 0), (3, 1), (3, 0), (2, 1), (2, 0), (1, 1), (1, 0),
    (0, 1), (0, 0)]

set_option maxHeartbeats 4000000 in
/-- The thirty-two stores into the scratch are the gate blocks. -/
theorem scratch_list : kernelRun0_A.sl.HS0_32 c a2 h2 a3 h3 a4 h4 a5 h5 a6 h6 a7 h7 a8 h8 x1 x2 x3 x4 x5 x6 x7
    = gidx.map fun p => gst a2 h2 a3 h3 a4 h4 a5 h5 a6 h6 a7 h7 a8 h8 x1 x2 x3 x4 x5 x6 x7 p.1 p.2 := by
  unfold kernelRun0_A.sl.HS0_32 gidx
  simp only [List.map_cons, List.map_nil]
  iterate 32 refine congrArg₂ List.cons rfl ?_
  rfl

/-- A column piece of the weights is inside them. -/
theorem inC (n : Fin 8) (a : Fin 2) : (![0, 256 * (n : ℕ)] : Fin 2 → Nat) a + S2048x256.size a ≤ S2048x2048.size a := by
  have := n.isLt
  fin_cases a
  · show 0 + 2048 ≤ 2048; omega
  · show 256 * (n : ℕ) + 256 ≤ 2048; omega

/-- A column piece of the rows is inside them. -/
theorem inR (n : Fin 8) (a : Fin 2) : (![0, 256 * (n : ℕ)] : Fin 2 → Nat) a + S256x256.size a ≤ S256x2048.size a := by
  have := n.isLt
  fin_cases a
  · show 0 + 256 ≤ 256; omega
  · show 256 * (n : ℕ) + 256 ≤ 2048; omega

/-- The store of a column piece: the residual plus the first half of the projection. -/
def pst (n : Fin 8) : View.Piece (Elt F) S256x2048 .f32 :=
  ⟨Rect.unit (s := S256x2048) ![0, 256 * (n : ℕ)] S256x256.size (inR n),
    k0_pay39 (View.readAt (Elt F) a11.view (Rect.unit (s := S256x2048) ![0, 256 * (n : ℕ)] S256x256.size (inR n)).toLoadRect (h11.unread x10))
      (View.readAt (Elt F) a1.view (Rect.unit (s := S256x2048) ![0, 0] S256x2048.size inb_S256x2048_S256x2048_0_0).toLoadRect (h1.unread x0))
      (View.readAt (Elt F) a9.view (Rect.unit (s := S2048x2048) ![0, 256 * (n : ℕ)] S2048x256.size (inC n)).toLoadRect (h9.unread x8))⟩

/-- The column pieces in the order the stores are listed. -/
def pidx : List (Fin 8) := [7, 6, 5, 4, 3, 2, 1, 0]

set_option maxHeartbeats 4000000 in
/-- The eight stores before the last one are the column pieces. -/
theorem piece_list : kernelRun0_A.sl.H12_8 c a1 h1 a9 h9 a11 h11 x0 x8 x10 = pidx.map fun n => pst a1 h1 a9 h9 a11 h11 x0 x8 x10 n := by
  unfold kernelRun0_A.sl.H12_8 pidx
  simp only [List.map_cons, List.map_nil]
  iterate 8 refine congrArg₂ List.cons rfl ?_
  rfl

end Reads

end Cert.Kernel5Ideal.Sgu

end
-- ==== Proof.SguSpec.lean ====
/- The gating kernel's mathematics at one row: gelu, the norm with a mean, the causal mixing of a chunk and the gate. The
   kernel writes the gelu with its cubic coefficient multiplied out; off minus infinity both are one number. -/
module

public import proofs.«01_k».proof.Proof.SguPieces
public import proofs.«01_k».proof.Proof.Spec
public import proofs.«01_k».proof.Proof.OutProj

@[expose] public section

set_option maxRecDepth 65536

noncomputable section

namespace Cert.Sgu

open Cert.Attn Idealize.ShloMosaic Idealize.ShloMosaic.Pointwise

/-- The gelu by a hyperbolic tangent, as the problem writes it. -/
def gelu (g : EReal) : EReal :=
  g * (Ideal.ofBits .f32 0x3F000000#32 * (1 + Ideal.tanh (Ideal.ofBits .f32 0x3F4C422A#32
    * (g + Ideal.ofBits .f32 0x3D372713#32 * (g * g * g)))))

/-- The gelu as the kernel writes it. -/
def geluK (κ g : EReal) : EReal :=
  Ideal.ofBits .f32 0x3F000000#32 * g + Ideal.ofBits .f32 0x3F000000#32 * g
    * Ideal.tanh (g * (Ideal.ofBits .f32 0x3F4C422A#32 + κ * (g * g)))

/-- The gelu's inner factor. -/
theorem f32_A : Ideal.ofBits .f32 0x3F4C422A#32 = ((6693141 / 8388608 : ℝ) : EReal) := by
  simp [Ideal.ofBits, Ideal.ieee, -EReal.coe_mul]
  norm_num

/-- The gelu's cubic factor. -/
theorem f32_B : Ideal.ofBits .f32 0x3D372713#32 = ((12003091 / 268435456 : ℝ) : EReal) := by
  simp [Ideal.ofBits, Ideal.ieee, -EReal.coe_mul]
  norm_num

/-- Off minus infinity the two gelus are one number: the named constant is the product of the two factors. -/
theorem gelu_eq (g : EReal) (hg : g ≠ ⊥) : geluK ((80338380498831 / 2251799813685248 : ℝ) : EReal) g = gelu g := by
  rw [geluK, gelu, half_f32, f32_A, f32_B]
  induction g with
  | bot => exact absurd rfl hg
  | top =>
    rw [EReal.coe_mul_top_of_pos (by norm_num), EReal.top_mul_top, EReal.coe_mul_top_of_pos (by norm_num), EReal.coe_add_top,
      EReal.top_mul_top, EReal.coe_mul_top_of_pos (by norm_num), EReal.top_add_top, EReal.coe_mul_top_of_pos (by norm_num),
      Ideal.tanh_top, mul_one, EReal.top_add_top, show (1 : EReal) = ((1 : ℝ) : EReal) from rfl, ← EReal.coe_add, ← EReal.coe_mul]
    exact (EReal.top_mul_coe_of_pos (by norm_num)).symm
  | coe g =>
    simp only [← EReal.coe_mul, ← EReal.coe_add, Ideal.tanh_coe, show (1 : EReal) = ((1 : ℝ) : EReal) from rfl]
    refine congrArg Real.toEReal ?_
    rw [show g * (6693141 / 8388608 + 80338380498831 / 2251799813685248 * (g * g))
      = 6693141 / 8388608 * (g + 12003091 / 268435456 * (g * g * g)) by ring]
    ring

/-- The mean of a row. -/
def mean (a : Fin 2048 → EReal) : EReal := Ideal.div (∑ k : Fin 2048, a k) (Ideal.ofBits .f32 0x45000000#32)

/-- A row minus its mean, over its standard deviation, scaled and shifted. -/
def lnorm (a w b : Fin 2048 → EReal) (x : Fin 2048) : EReal :=
  (a x - mean a) * Ideal.rsqrt (Ideal.div (∑ k : Fin 2048, (a k - mean a) * (a k - mean a)) (Ideal.ofBits .f32 0x45000000#32)
    + Ideal.ofBits .f32 0x358637BD#32) * w x + b x

/-- The causal mixing of a chunk: the lower triangle of a group's matrix times a column of the chunk, plus the bias. -/
def mix (v w : Fin 128 → EReal) (bias : EReal) (t : Fin 128) : EReal :=
  ∑ s : Fin 128, (if (s : ℕ) ≤ (t : ℕ) then w s else 0) * v s + bias

/-- The gated value: gelu, times the mixing of the normed gelus of the chunk, times the silu of the gate. -/
def gated (u z : EReal) (v : Fin 128 → Fin 2048 → EReal) (lw lb : Fin 2048 → EReal) (w : Fin 128 → EReal) (bias : EReal) (t : Fin 128)
    (x : Fin 2048) : EReal :=
  gelu u * mix (fun s => lnorm (fun k => gelu (v s k)) lw lb x) w bias t * silu z

/-- The gated value of the launched arrays, at a chunk, a position, a group and a column. -/
def gateAt (M : Vec Ideal ⟨2, ![8192, 12288]⟩ .f32) (lw lb : Vec Ideal ⟨2, ![1, 2048]⟩ .f32) (ws : Vec Ideal ⟨4, ![1, 16, 128, 128]⟩ .f32)
    (bs : Vec Ideal ⟨3, ![1, 16, 128]⟩ .f32) (n : Fin 64) (s : Fin 128) (g : Fin 16) (q : Fin 128) : EReal :=
  gated (M (ix2 ⟨128 * n + s, by omega⟩ ⟨8192 + (128 * g + q), by omega⟩)) (M (ix2 ⟨128 * n + s, by omega⟩ ⟨6144 + (128 * g + q), by omega⟩))
    (fun s k => M (ix2 ⟨128 * n + s, by omega⟩ ⟨10240 + k, by omega⟩)) (fun k => lw (ix2 0 k)) (fun k => lb (ix2 0 k))
    (fun k => ws (ix4 0 g s k)) (bs (ix3 0 g s)) s ⟨128 * g + q, by omega⟩

/-- The gated value at a row and a column. -/
def gateR (M : Vec Ideal ⟨2, ![8192, 12288]⟩ .f32) (lw lb : Vec Ideal ⟨2, ![1, 2048]⟩ .f32) (ws : Vec Ideal ⟨4, ![1, 16, 128, 128]⟩ .f32)
    (bs : Vec Ideal ⟨3, ![1, 16, 128]⟩ .f32) (r : Fin 8192) (x : Fin 2048) : EReal :=
  gateAt M lw lb ws bs ⟨r / 128, by omega⟩ ⟨r % 128, by omega⟩ ⟨x / 128, by omega⟩ ⟨x % 128, by omega⟩

/-- The residual stream after the projection, at a row and a column. -/
def addedR (A : Vec Ideal ⟨2, ![8192, 2048]⟩ .f32) (M : Vec Ideal ⟨2, ![8192, 12288]⟩ .f32) (lw lb : Vec Ideal ⟨2, ![1, 2048]⟩ .f32)
    (ws : Vec Ideal ⟨4, ![1, 16, 128, 128]⟩ .f32) (bs : Vec Ideal ⟨3, ![1, 16, 128]⟩ .f32) (w : Vec Ideal ⟨3, ![1, 4096, 2048]⟩ .f32)
    (h : Vec Ideal ⟨2, ![8192, 2048]⟩ .f32) (r : Fin 8192) (x : Fin 2048) : EReal :=
  h (ix2 r x) + (∑ k : Fin 2048, A (ix2 r k) * w (ix3 0 ⟨k, by omega⟩ x)
    + ∑ k : Fin 2048, gateR M lw lb ws bs r k * w (ix3 0 ⟨2048 + k, by omega⟩ x))

end Cert.Sgu

namespace Cert.Kernel5Ideal.Sgu

open Cert.Kernel5Ideal Cert.Kernel5Ideal.Gen Cert.Attn Cert.Sgu Cert.OutProj Idealize.ShloMosaic Idealize.ShloMosaic.Pointwise Idealize.SL.Sem

/-- The named constant of the gelu. -/
theorem cubic_real : (Named.named (F := Ideal) κ "gelu_cubic" (0x3D122279#32 : BitVec 32) : Ideal .f32)
    = ((80338380498831 / 2251799813685248 : ℝ) : EReal) := rfl

/-- The kernel's gelu of a block, at an index. -/
theorem gel_eq (u : Vec Ideal S128x128 .bf16) (i j : Fin 128) (hu : (u (ix2 i j) : EReal) ≠ ⊥) :
    gel u (ix2 i j) = gelu (u (ix2 i j)) := by
  rw [← gelu_eq _ hu, ← cubic_real]
  pointwise [gel, half, geluK]

/-- The kernel's silu of a block, at an index. -/
theorem sil_eq (z : Vec Ideal S128x128 .bf16) (i j : Fin 128) (hz : (z (ix2 i j) : EReal) ≠ ⊥) :
    sil z (ix2 i j) = silu (z (ix2 i j)) := by
  rw [← silu_tanh _ hz]
  pointwise [sil, half]

/-- The normed values, at an index. -/
theorem pay2_eq (v : Vec Ideal S256x2048 .bf16) (w b : Vec Ideal S1x2048 .f32) (r : Fin 256) (x : Fin 2048)
    (hv : ∀ k : Fin 2048, (v (ix2 r k) : EReal) ≠ ⊥) :
    k0_pay2 v w b (ix2 r x) = lnorm (fun k => gelu (v (ix2 r k))) (fun k => w (ix2 0 k)) (fun k => b (ix2 0 k)) x := by
  have e : (fun k => gelu (v (ix2 r k))) = fun k => geluK ((80338380498831 / 2251799813685248 : ℝ) : EReal) (v (ix2 r k)) :=
    funext fun k => (gelu_eq _ (hv k)).symm
  rw [e, ← cubic_real]
  pointwise [k0_pay2, lnorm, mean, geluK]

/-- A group's mixing, at a position of the chunk and a column. -/
theorem mixg_eq (v : FVec Ideal S256x2048 .bf16) (w : Vec Ideal S1x128x128 .f32) (bias : Vec Ideal S128x1 .f32) (g : Fin 16) (b : Fin 2)
    (t q : Fin 128) : mixg v w bias g (ix2 t ⟨128 * b + q, by omega⟩)
      = mix (fun s => v (ix2 ⟨128 * b + s, by omega⟩ ⟨128 * g + q, by omega⟩)) (fun s => w (ix3 0 t s)) (bias (ix2 t 0)) t := by
  fin_cases b
  · pointwise [mixg, vals, mix]
    refine congrArg (· + _) (Finset.sum_congr rfl fun s _ => ?_)
    rw [select_le _ _ (by omega) (by omega)]
    split <;> simp
  · pointwise [mixg, vals, mix]
    refine congrArg (· + _) (Finset.sum_congr rfl fun s _ => ?_)
    rw [select_le _ _ (by omega) (by omega)]
    split <;> simp

end Cert.Kernel5Ideal.Sgu

end
-- ==== Proof.SguBlock.lean ====
/- What the gating kernel leaves in its scratch and in its two output blocks at a grid point, read at an index. -/
module

public import proofs.«01_k».proof.Proof.SguSpec
public import Idealize.ShloMosaic.Lib.Pipeline.ValueKit.Point

@[expose] public section

set_option maxRecDepth 65536

noncomputable section

namespace Cert.Kernel5Ideal.Sgu

open Cert.Kernel5Ideal Cert.Kernel5Ideal.Gen Cert.Attn Cert.Sgu Cert.OutProj Idealize.ShloMosaic Idealize.ShloMosaic.Pointwise Idealize.SL.Sem

/-- The zero offset of a matrix. -/
theorem hz2 : (![0, 0] : Fin 2 → Nat) = fun _ => 0 := funext fun a => by fin_cases a <;> rfl

variable (c : Dev nD) (i : grid0.Coords) (a1 : Memref sig .tc .vmem S256x2048 .bf16) (h1 : a1.IsWhole)
  (a2 : Memref sig .tc .vmem S256x2048 .bf16) (h2 : a2.IsWhole)
  (a3 : Memref sig .tc .vmem S256x2048 .bf16) (h3 : a3.IsWhole) (a4 : Memref sig .tc .vmem S256x2048 .bf16) (h4 : a4.IsWhole)
  (a5 : Memref sig .tc .vmem S1x2048 .f32) (h5 : a5.IsWhole) (a6 : Memref sig .tc .vmem S1x2048 .f32) (h6 : a6.IsWhole)
  (a7 : Memref sig .tc .vmem S16x128x128 .f32) (h7 : a7.IsWhole) (a8 : Memref sig .tc .vmem S128x16 .f32) (h8 : a8.IsWhole)
  (a9 : Memref sig .tc .vmem S2048x2048 .bf16) (h9 : a9.IsWhole) (a10 : Memref sig .tc .vmem S2048x2048 .bf16) (h10 : a10.IsWhole)
  (a11 : Memref sig .tc .vmem S256x2048 .f32) (h11 : a11.IsWhole) (a12 : Memref sig .tc .vmem S1x2048 .f32) (h12 : a12.IsWhole)
  (a13 : Memref sig .tc .vmem S256x2048 .f32) (h13 : a13.IsWhole) (a14 : Memref sig .tc .vmem S256x2048 .bf16) (h14 : a14.IsWhole)
  (a15 : Memref sig .tc .vmem S256x2048 .bf16) (h15 : a15.IsWhole)
  (x0 x1 x2 x3 : Vec Ideal S256x2048 .bf16) (x4 x5 : Vec Ideal S1x2048 .f32) (x6 : Vec Ideal S16x128x128 .f32) (x7 : Vec Ideal S128x16 .f32)
  (x8 x9 : Vec Ideal S2048x2048 .bf16) (x10 : Vec Ideal S256x2048 .f32) (x11 : Vec Ideal S1x2048 .f32)

/-- The gated value of a block at a chunk, a position, a group and a column. -/
def gateP (b : Fin 2) (s : Fin 128) (g : Fin 16) (q : Fin 128) : EReal :=
  gated (x2 (ix2 ⟨128 * b + s, by omega⟩ ⟨128 * g + q, by omega⟩)) (x1 (ix2 ⟨128 * b + s, by omega⟩ ⟨128 * g + q, by omega⟩))
    (fun s k => x3 (ix2 ⟨128 * b + s, by omega⟩ k)) (fun k => x4 (ix2 0 k)) (fun k => x5 (ix2 0 k)) (fun k => x6 (ix3 g s k)) (x7 (ix2 s g)) s
    ⟨128 * g + q, by omega⟩

/-- The gated value of a block at a row and a column. -/
def gateB (r : Fin 256) (x : Fin 2048) : EReal :=
  gateP x1 x2 x3 x4 x5 x6 x7 ⟨r / 128, by omega⟩ ⟨r % 128, by omega⟩ ⟨x / 128, by omega⟩ ⟨x % 128, by omega⟩

/-- A piece of the scratch, at an index. -/
theorem gst_eq (hz : ∀ (r : Fin 256) (x : Fin 2048), (x1 (ix2 r x) : EReal) ≠ ⊥) (hu : ∀ (r : Fin 256) (x : Fin 2048), (x2 (ix2 r x) : EReal) ≠ ⊥)
    (hv : ∀ (r : Fin 256) (x : Fin 2048), (x3 (ix2 r x) : EReal) ≠ ⊥) (g : Fin 16) (b : Fin 2) (s q : Fin 128) :
    (gst a2 h2 a3 h3 a4 h4 a5 h5 a6 h6 a7 h7 a8 h8 x1 x2 x3 x4 x5 x6 x7 g b).2 (ix2 s q) = gateP x1 x2 x3 x4 x5 x6 x7 b s g q := by
  have eu : ∀ (X : Vec Ideal S256x2048 .bf16), (View.ld X (Rect.unit (s := S256x2048) ![128 * (b : ℕ), 128 * (g : ℕ)] S128x128.size (inG g b)) : Vec Ideal S128x128 .bf16) (ix2 s q)
      = X (ix2 ⟨128 * b + s, by omega⟩ ⟨128 * g + q, by omega⟩) := fun X =>
    View.ld_unit_apply_of X _ _ _ _ _ fun a => by fin_cases a <;> rfl
  have ew : ∀ k : Fin 128, (View.ld x6 (Rect.unit (s := S16x128x128) ![(g : ℕ), 0, 0] S1x128x128.size (inW g)) : Vec Ideal S1x128x128 .f32) (ix3 0 s k)
      = x6 (ix3 g s k) := fun k =>
    View.ld_unit_apply_of x6 _ _ _ _ _ fun a => by fin_cases a <;> simp
  have eb : (View.ld x7 (Rect.unit (s := S128x16) ![0, (g : ℕ)] S128x1.size (inB g)) : Vec Ideal S128x1 .f32) (ix2 s 0) = x7 (ix2 s g) :=
    View.ld_unit_apply_of x7 _ _ _ _ _ fun a => by fin_cases a <;> simp
  simp only [gst, mixl, vnorm, View.readAt_eq_ld, h2.read_unread, h3.read_unread, h4.read_unread, h5.read_unread, h6.read_unread, h7.read_unread,
    h8.read_unread, View.ld_unit_zero (S := S256x2048) hz2, View.ld_unit_zero (S := S1x2048) hz2]
  have e : ∀ (u z : Vec Ideal S128x128 .bf16) (mx : FVec Ideal S128x256 .f32), gate u z mx b (ix2 s q)
      = gel u (ix2 s q) * mx (ix2 s ⟨128 * b + q, by omega⟩) * sil z (ix2 s q) := by
    intro u z mx
    pointwise [gate]
  refine (e _ _ _).trans ?_
  rw [mixg_eq, gel_eq _ _ _ (by rw [eu]; exact hu _ _), sil_eq _ _ _ (by rw [eu]; exact hz _ _), eu, eu, eb, gateP, gated]
  simp only [ew, pay2_eq x3 x4 x5 _ _ (hv _)]

/-- The scratch after its thirty-two stores, at an index. -/
theorem scratch_eq (hz : ∀ (r : Fin 256) (x : Fin 2048), (x1 (ix2 r x) : EReal) ≠ ⊥) (hu : ∀ (r : Fin 256) (x : Fin 2048), (x2 (ix2 r x) : EReal) ≠ ⊥)
    (hv : ∀ (r : Fin 256) (x : Fin 2048), (x3 (ix2 r x) : EReal) ≠ ⊥) (r : Fin 256) (x : Fin 2048) :
    View.canon (kernelRun0_A.sl.HS0_32 c a2 h2 a3 h3 a4 h4 a5 h5 a6 h6 a7 h7 a8 h8 x1 x2 x3 x4 x5 x6 x7) (ix2 r x)
      = gateB x1 x2 x3 x4 x5 x6 x7 r x := by
  rw [scratch_list]
  refine View.canon_eq_of_allAt _ _ _ ?_ ?_
  · have hm : ∀ p : Fin 16 × Fin 2, p ∈ gidx := by decide +kernel
    refine ⟨_, List.mem_map.mpr ⟨(⟨x / 128, by omega⟩, ⟨r / 128, by omega⟩), hm _, rfl⟩, (Rect.mem_set_unit (inb := inG _ _)).mpr fun a => ?_⟩
    fin_cases a
    · show 128 * ((r : ℕ) / 128) ≤ (r : ℕ) ∧ (r : ℕ) < 128 * ((r : ℕ) / 128) + 128
      omega
    · show 128 * ((x : ℕ) / 128) ≤ (x : ℕ) ∧ (x : ℕ) < 128 * ((x : ℕ) / 128) + 128
      omega
  · intro p hp y hy
    obtain ⟨⟨g, b⟩, -, rfl⟩ := List.mem_map.mp hp
    obtain ⟨s, q, rfl⟩ : ∃ (s q : Fin 128), y = (ix2 s q : S128x128.Idx) := ⟨y 0, y 1, funext fun a => by fin_cases a <;> rfl⟩
    have e0 : 128 * (b : ℕ) + 1 * (s : ℕ) = r := congrArg (fun z : S256x2048.Idx => (z 0 : ℕ)) hy
    have e1 : 128 * (g : ℕ) + 1 * (q : ℕ) = x := congrArg (fun z : S256x2048.Idx => (z 1 : ℕ)) hy
    refine (gst_eq a2 h2 a3 h3 a4 h4 a5 h5 a6 h6 a7 h7 a8 h8 x1 x2 x3 x4 x5 x6 x7 hz hu hv g b s q).trans ?_
    rw [gateB]
    rw [show (⟨(r : ℕ) / 128, by omega⟩ : Fin 2) = b from Fin.ext (by show (r : ℕ) / 128 = b; omega),
      show (⟨(r : ℕ) % 128, by omega⟩ : Fin 128) = s from Fin.ext (by show (r : ℕ) % 128 = s; omega),
      show (⟨(x : ℕ) / 128, by omega⟩ : Fin 16) = g from Fin.ext (by show (x : ℕ) / 128 = g; omega),
      show (⟨(x : ℕ) % 128, by omega⟩ : Fin 128) = q from Fin.ext (by show (x : ℕ) % 128 = q; omega)]

/-- The output block after its first eight stores, at an index: the residual plus the first half of the projection. -/
theorem first_eq (r : Fin 256) (x : Fin 2048) :
    View.canon (kernelRun0_A.sl.H12_8 c a1 h1 a9 h9 a11 h11 x0 x8 x10) (ix2 r x)
      = x10 (ix2 r x) + ∑ k : Fin 2048, x0 (ix2 r k) * x8 (ix2 k x) := by
  rw [piece_list]
  refine View.canon_eq_of_allAt _ _ _ ?_ ?_
  · have hm : ∀ n : Fin 8, n ∈ pidx := by decide +kernel
    refine ⟨_, List.mem_map.mpr ⟨⟨x / 256, by omega⟩, hm _, rfl⟩, (Rect.mem_set_unit (inb := inR _)).mpr fun a => ?_⟩
    fin_cases a
    · show 0 ≤ (r : ℕ) ∧ (r : ℕ) < 0 + 256
      omega
    · show 256 * ((x : ℕ) / 256) ≤ (x : ℕ) ∧ (x : ℕ) < 256 * ((x : ℕ) / 256) + 256
      omega
  · intro p hp y hy
    obtain ⟨n, -, rfl⟩ := List.mem_map.mp hp
    obtain ⟨s, q, rfl⟩ : ∃ (s q : Fin 256), y = (ix2 s q : S256x256.Idx) := ⟨y 0, y 1, funext fun a => by fin_cases a <;> rfl⟩
    have e0 : 0 + 1 * (s : ℕ) = r := congrArg (fun z : S256x2048.Idx => (z 0 : ℕ)) hy
    have e1 : 256 * (n : ℕ) + 1 * (q : ℕ) = x := congrArg (fun z : S256x2048.Idx => (z 1 : ℕ)) hy
    obtain rfl : s = r := Fin.ext (by omega)
    have er : (View.ld x10 (Rect.unit (s := S256x2048) ![0, 256 * (n : ℕ)] S256x256.size (inR n)) : Vec Ideal S256x256 .f32) (ix2 s q) = x10 (ix2 s x) :=
      View.ld_unit_apply_of x10 _ _ _ _ _ fun a => by fin_cases a <;> simp <;> omega
    have ew : ∀ k : Fin 2048, (View.ld x8 (Rect.unit (s := S2048x2048) ![0, 256 * (n : ℕ)] S2048x256.size (inC n)) : Vec Ideal S2048x256 .bf16) (ix2 k q)
        = x8 (ix2 k x) := fun k =>
      View.ld_unit_apply_of x8 _ _ _ _ _ fun a => by fin_cases a <;> simp <;> omega
    simp only [pst, View.readAt_eq_ld, h1.read_unread, h9.read_unread, h11.read_unread, View.ld_unit_zero (S := S256x2048) hz2]
    have e : ∀ (u : Vec Ideal S256x256 .f32) (v : Vec Ideal S256x2048 .bf16) (w : Vec Ideal S2048x256 .bf16),
        k0_pay39 u v w (ix2 s q) = u (ix2 s q) + ∑ k : Fin 2048, v (ix2 s k) * w (ix2 k q) := by
      intro u v w
      pointwise [k0_pay39]
    refine (e _ _ _).trans ?_
    simp only [er, ew]

/-- The residual stream after the projection, in a block. -/
def addB (r : Fin 256) (x : Fin 2048) : EReal :=
  x10 (ix2 r x) + (∑ k : Fin 2048, x0 (ix2 r k) * x8 (ix2 k x) + ∑ k : Fin 2048, gateB x1 x2 x3 x4 x5 x6 x7 r k * x9 (ix2 k x))

/-- The last sum of the first output block, at an index. -/
theorem sum_eq (hz : ∀ (r : Fin 256) (x : Fin 2048), (x1 (ix2 r x) : EReal) ≠ ⊥) (hu : ∀ (r : Fin 256) (x : Fin 2048), (x2 (ix2 r x) : EReal) ≠ ⊥)
    (hv : ∀ (r : Fin 256) (x : Fin 2048), (x3 (ix2 r x) : EReal) ≠ ⊥) (r : Fin 256) (x : Fin 2048) :
    kernelRun0_A.sl.r_41 c a1 h1 a2 h2 a3 h3 a4 h4 a5 h5 a6 h6 a7 h7 a8 h8 a9 h9 a10 h10 a11 h11 a13 a15 x0 x1 x2 x3 x4 x5 x6 x7 x8 x9 x10 (ix2 r x)
      = addB x0 x1 x2 x3 x4 x5 x6 x7 x8 x9 x10 r x := by
  have e : ∀ (u : Vec Ideal S256x2048 .f32) (v : Vec Ideal S256x2048 .bf16) (w : Vec Ideal S2048x2048 .bf16),
      k0_pay107 u v w (ix2 r x) = u (ix2 r x) + ∑ k : Fin 2048, v (ix2 r k) * w (ix2 k x) := by
    intro u v w
    pointwise [k0_pay107]
  unfold kernelRun0_A.sl.r_41 kernelRun0_A.sl.v1257 kernelRun0_A.sl.v1259 View.readCov
  simp only [View.readAt_eq_ld, View.read_writes_junk_eq_canon, h10.read_unread, View.ld_unit_zero (S := S256x2048) hz2,
    View.ld_unit_zero (S := S2048x2048) hz2]
  refine (e _ _ _).trans ?_
  rw [first_eq]
  simp only [scratch_eq c a2 h2 a3 h3 a4 h4 a5 h5 a6 h6 a7 h7 a8 h8 x1 x2 x3 x4 x5 x6 x7 hz hu hv]
  rw [addB, add_assoc]

/-- The first output block, at an index. -/
theorem out12_eq (hz : ∀ (r : Fin 256) (x : Fin 2048), (x1 (ix2 r x) : EReal) ≠ ⊥) (hu : ∀ (r : Fin 256) (x : Fin 2048), (x2 (ix2 r x) : EReal) ≠ ⊥)
    (hv : ∀ (r : Fin 256) (x : Fin 2048), (x3 (ix2 r x) : EReal) ≠ ⊥) (r : Fin 256) (x : Fin 2048) :
    out0_A_12 c i a1 h1 a2 h2 a3 h3 a4 h4 a5 h5 a6 h6 a7 h7 a8 h8 a9 h9 a10 h10 a11 h11 a12 h12 a13 h13 a14 h14 a15 h15
        x0 x1 x2 x3 x4 x5 x6 x7 x8 x9 x10 x11 (ix2 r x)
      = addB x0 x1 x2 x3 x4 x5 x6 x7 x8 x9 x10 r x := by
  unfold out0_A_12
  rw [View.read_writes_junk_eq_canon]
  unfold kernelRun0_A
  dsimp only
  refine (congrFun (View.canon_cons_unit_zero (S := S256x2048) hz2 inb_S256x2048_S256x2048_0_0 _ _) (ix2 r x)).trans ?_
  exact sum_eq c a1 h1 a2 h2 a3 h3 a4 h4 a5 h5 a6 h6 a7 h7 a8 h8 a9 h9 a10 h10 a11 h11 a13 a15 x0 x1 x2 x3 x4 x5 x6 x7 x8 x9 x10 hz hu hv r x

/-- The second output block, at an index. -/
theorem out13_eq (hz : ∀ (r : Fin 256) (x : Fin 2048), (x1 (ix2 r x) : EReal) ≠ ⊥) (hu : ∀ (r : Fin 256) (x : Fin 2048), (x2 (ix2 r x) : EReal) ≠ ⊥)
    (hv : ∀ (r : Fin 256) (x : Fin 2048), (x3 (ix2 r x) : EReal) ≠ ⊥) (r : Fin 256) (x : Fin 2048) :
    out0_A_13 c i a1 h1 a2 h2 a3 h3 a4 h4 a5 h5 a6 h6 a7 h7 a8 h8 a9 h9 a10 h10 a11 h11 a12 h12 a13 h13 a14 h14 a15 h15
        x0 x1 x2 x3 x4 x5 x6 x7 x8 x9 x10 x11 (ix2 r x)
      = normed (addB x0 x1 x2 x3 x4 x5 x6 x7 x8 x9 x10 r) (fun z => x11 (ix2 0 z)) x := by
  unfold out0_A_13
  rw [View.read_writes_junk_eq_canon]
  unfold kernelRun0_A
  dsimp only
  have e : ∀ (u : FVec Ideal S256x2048 .f32) (v : Vec Ideal S1x2048 .f32),
      k0_pay1 u v (ix2 r x) = normed (fun z => u (ix2 r z)) (fun z => v (ix2 0 z)) x := by
    intro u v
    pointwise [k0_pay1, normed]
  refine (congrFun (View.canon_cons_unit_zero (S := S256x2048) hz2 inb_S256x2048_S256x2048_0_0 _ _) (ix2 r x)).trans ?_
  simp only [View.readAt_eq_ld, h12.read_unread, View.ld_unit_zero (S := S1x2048) hz2]
  refine (e _ _).trans ?_
  simp only [sum_eq c a1 h1 a2 h2 a3 h3 a4 h4 a5 h5 a6 h6 a7 h7 a8 h8 a9 h9 a10 h10 a11 h11 a13 a15 x0 x1 x2 x3 x4 x5 x6 x7 x8 x9 x10 hz hu hv]

end Cert.Kernel5Ideal.Sgu

end
-- ==== Proof.SguValue.lean ====
/- The gating kernel's two result arrays, read at an index. -/
module

public import proofs.«01_k».proof.Proof.SguBlock

@[expose] public section

set_option maxRecDepth 65536

noncomputable section

namespace Cert.Kernel5Ideal.Sgu

open Cert.Kernel5Ideal Cert.Kernel5Ideal.Gen Cert.Attn Cert.Sgu Cert.OutProj Idealize.ShloMosaic Idealize.ShloMosaic.TcCoe Idealize.ShloMosaic.Pointwise
  Idealize.SL.Sem
open Idealize.ShloMosaic.Pipeline (Dat)

variable (m : (ℓ : Loc nD τ sig) → Buf (Elt Ideal) ℓ)

/-- The input projection without the time steps' columns, as launched. -/
abbrev proj (c : Dev nD) : S8192x12288.Idx → EReal := m ((c : Thread nD τ).loc main_arg1)

/-- The residual stream after the projection, of the launched arrays. -/
def added (c : Dev nD) (r : Fin 8192) (x : Fin 2048) : EReal :=
  addedR (m ((c : Thread nD τ).loc main_arg0)) (proj m c) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) r x

/-- The first result array: the residual stream after the projection. -/
def goal (c : Dev nD) (y : S8192x2048.Idx) : EReal := added m c (y 0) (y 1)

/-- The second result array: its rows, normed for the odd layer. -/
def goalNorm (c : Dev nD) (y : S8192x2048.Idx) : EReal :=
  normed (added m c (y 0)) (fun x => m ((c : Thread nD τ).loc main_arg8) (ix2 1 x)) (y 1)

/-- The grid: thirty-two blocks of rows; each window's block at a point. -/
theorem idx : ∀ t : Fin cfg0.N, win0_0.index t = ![t.val, 0] ∧ win0_1.index t = ![t.val, 3] ∧ win0_2.index t = ![t.val, 4]
    ∧ win0_3.index t = ![t.val, 5] ∧ win0_4.index t = ![0, 0] ∧ win0_5.index t = ![0, 0] ∧ win0_6.index t = ![0, 0, 0]
    ∧ win0_7.index t = ![0, 0] ∧ win0_8.index t = ![0, 0] ∧ win0_9.index t = ![1, 0] ∧ win0_10.index t = ![t.val, 0]
    ∧ win0_11.index t = ![0, 0] ∧ win0_12.index t = ![t.val, 0] ∧ win0_13.index t = ![t.val, 0] :=
  (by decide +kernel : ∀ t : Fin grid0.N, _)

/-- A row of a grid point's block, as a row of the array. -/
def row (t : Fin cfg0.N) (r : Fin 256) : Fin 8192 :=
  ⟨256 * t.val + r, by have : t.val < 32 := lt_of_lt_of_eq t.isLt N_0; omega⟩

/-- The window over the state space unit's result. -/
theorem blk0 (c : Dev nD) (t : Fin cfg0.N) (r : Fin 256) (x : Fin 2048) :
    (iblk m c 0 t : Vec Ideal S256x2048 .bf16) (ix2 r x) = m ((c : Thread nD τ).loc main_arg0) (ix2 (row t r) x) := by
  blk_ext! [iblk, V, idx t, row]

/-- The window over the gate's columns. -/
theorem blk1 (c : Dev nD) (t : Fin cfg0.N) (r : Fin 256) (x : Fin 2048) :
    (iblk m c 1 t : Vec Ideal S256x2048 .bf16) (ix2 r x) = proj m c (ix2 (row t r) ⟨6144 + x, by omega⟩) := by
  blk_ext! [iblk, V, idx t, row]

/-- The window over the columns under the gelu. -/
theorem blk2 (c : Dev nD) (t : Fin cfg0.N) (r : Fin 256) (x : Fin 2048) :
    (iblk m c 2 t : Vec Ideal S256x2048 .bf16) (ix2 r x) = proj m c (ix2 (row t r) ⟨8192 + x, by omega⟩) := by
  blk_ext! [iblk, V, idx t, row]

/-- The window over the columns that are mixed. -/
theorem blk3 (c : Dev nD) (t : Fin cfg0.N) (r : Fin 256) (x : Fin 2048) :
    (iblk m c 3 t : Vec Ideal S256x2048 .bf16) (ix2 r x) = proj m c (ix2 (row t r) ⟨10240 + x, by omega⟩) := by
  blk_ext! [iblk, V, idx t, row]

/-- The inner norm's weights, whole at every point. -/
theorem blk4 (c : Dev nD) (t : Fin cfg0.N) (x : Fin 2048) :
    (iblk m c 4 t : Vec Ideal S1x2048 .f32) (ix2 0 x) = m ((c : Thread nD τ).loc main_arg2) (ix2 0 x) := by
  blk_ext! [iblk, V, idx t]

/-- The inner norm's shifts, whole at every point. -/
theorem blk5 (c : Dev nD) (t : Fin cfg0.N) (x : Fin 2048) :
    (iblk m c 5 t : Vec Ideal S1x2048 .f32) (ix2 0 x) = m ((c : Thread nD τ).loc main_arg3) (ix2 0 x) := by
  blk_ext! [iblk, V, idx t]

/-- The mixing matrices, whole at every point. -/
theorem blk6 (c : Dev nD) (t : Fin cfg0.N) (g : Fin 16) (a k : Fin 128) :
    (iblk m c 6 t : Vec Ideal S16x128x128 .f32) (ix3 g a k) = m ((c : Thread nD τ).loc main_arg4) (ix4 0 g a k) := by
  blk_ext! [iblk, V, idx t]

/-- The mixing's biases, whole at every point. -/
theorem blk7 (c : Dev nD) (t : Fin cfg0.N) (a : Fin 128) (g : Fin 16) :
    (iblk m c 7 t : Vec Ideal S128x16 .f32) (ix2 a g) = m ((c : Thread nD τ).loc main_arg5) (ix3 0 g a) := by
  blk_ext! [iblk, V, idx t]

/-- The weights of the first half, whole at every point. -/
theorem blk8 (c : Dev nD) (t : Fin cfg0.N) (k x : Fin 2048) :
    (iblk m c 8 t : Vec Ideal S2048x2048 .bf16) (ix2 k x) = m ((c : Thread nD τ).loc main_arg6) (ix3 0 ⟨k, by omega⟩ x) := by
  blk_ext! [iblk, V, idx t]

/-- The weights of the second half, whole at every point. -/
theorem blk9 (c : Dev nD) (t : Fin cfg0.N) (k x : Fin 2048) :
    (iblk m c 9 t : Vec Ideal S2048x2048 .bf16) (ix2 k x) = m ((c : Thread nD τ).loc main_arg6) (ix3 0 ⟨2048 + k, by omega⟩ x) := by
  blk_ext! [iblk, V, idx t]

/-- The residual stream's window. -/
theorem blk10 (c : Dev nD) (t : Fin cfg0.N) (r : Fin 256) (x : Fin 2048) :
    (iblk m c 10 t : Vec Ideal S256x2048 .f32) (ix2 r x) = m ((c : Thread nD τ).loc main_arg7) (ix2 (row t r) x) := by
  blk_ext! [iblk, V, idx t, row]

/-- The norm's weights, whole at every point. -/
theorem blk11 (c : Dev nD) (t : Fin cfg0.N) (x : Fin 2048) :
    (iblk m c 11 t : Vec Ideal S1x2048 .f32) (ix2 0 x) = m ((c : Thread nD τ).loc main_arg8) (ix2 1 x) := by
  blk_ext! [iblk, V, idx t]

/-- The gated value of a grid point's block, at a chunk, a position, a group and a column, is that of the arrays. -/
theorem gateP_eq (c : Dev nD) (t : Fin cfg0.N) (b : Fin 2) (s : Fin 128) (g : Fin 16) (q : Fin 128) (n : Fin 64) (hn : (n : ℕ) = 2 * t.val + b) :
    gateP (iblk m c 1 t) (iblk m c 2 t) (iblk m c 3 t) (iblk m c 4 t) (iblk m c 5 t) (iblk m c 6 t) (iblk m c 7 t) b s g q
      = gateAt (proj m c) (m ((c : Thread nD τ).loc main_arg2)) (m ((c : Thread nD τ).loc main_arg3)) (m ((c : Thread nD τ).loc main_arg4))
          (m ((c : Thread nD τ).loc main_arg5)) n s g q := by
  have er : ∀ s : Fin 128, row t ⟨128 * (b : ℕ) + s, by omega⟩ = ⟨128 * (n : ℕ) + s, by omega⟩ := fun s =>
    Fin.ext (by show 256 * t.val + (128 * (b : ℕ) + s) = 128 * (n : ℕ) + s; omega)
  rw [gateP, gateAt]
  simp only [blk1, blk2, blk3, blk4, blk5, blk6, blk7, er]

/-- The gated value of a grid point's block is that of the arrays. -/
theorem gate_eq (c : Dev nD) (t : Fin cfg0.N) (r : Fin 256) (x : Fin 2048) :
    gateB (iblk m c 1 t) (iblk m c 2 t) (iblk m c 3 t) (iblk m c 4 t) (iblk m c 5 t) (iblk m c 6 t) (iblk m c 7 t) r x
      = gateR (proj m c) (m ((c : Thread nD τ).loc main_arg2)) (m ((c : Thread nD τ).loc main_arg3)) (m ((c : Thread nD τ).loc main_arg4))
          (m ((c : Thread nD τ).loc main_arg5)) (row t r) x := by
  have ht : t.val < 32 := lt_of_lt_of_eq t.isLt N_0
  refine (gateP_eq m c t _ _ _ _ ⟨(row t r : ℕ) / 128, by omega⟩
    (by show (256 * t.val + (r : ℕ)) / 128 = 2 * t.val + (r : ℕ) / 128; omega)).trans ?_
  exact congrArg (fun s => gateAt (proj m c) (m ((c : Thread nD τ).loc main_arg2)) (m ((c : Thread nD τ).loc main_arg3))
    (m ((c : Thread nD τ).loc main_arg4)) (m ((c : Thread nD τ).loc main_arg5)) ⟨(row t r : ℕ) / 128, by omega⟩ s ⟨x / 128, by omega⟩ ⟨x % 128, by omega⟩)
    (Fin.ext (by show (r : ℕ) % 128 = (256 * t.val + (r : ℕ)) % 128; omega))

/-- A grid point's residual stream is that of the arrays. -/
theorem add_eq (c : Dev nD) (t : Fin cfg0.N) (r : Fin 256) (x : Fin 2048) :
    addB (iblk m c 0 t) (iblk m c 1 t) (iblk m c 2 t) (iblk m c 3 t) (iblk m c 4 t) (iblk m c 5 t) (iblk m c 6 t) (iblk m c 7 t)
        (iblk m c 8 t) (iblk m c 9 t) (iblk m c 10 t) r x
      = added m c (row t r) x := by
  rw [addB, added, addedR]
  simp only [gate_eq, blk0, blk8, blk9, blk10]

variable (hm : ∀ (c : Dev nD) (r : Fin 8192) (x : Fin 12288), 6144 ≤ (x : ℕ) → proj m c (ix2 r x) ≠ ⊥)

include hm

/-- A grid point's block of the first result. -/
theorem at12 (c : Dev nD) (t : Fin cfg0.N) (r : Fin 256) (x : Fin 2048) :
    (outsAt0 m c t).1 (ix2 r x) = goal m c (ix2 (row t r) x) := by
  unfold outsAt0
  dsimp only
  rw [out12_eq _ _ _ _ _ _ _ _ _ _ _ _ _ _ _ _ _ _ _ _ _ _ _ _ _ _ _ _ _ _ _ _ _ _ _ _ _ _ _ _ _ _ _ _
    (fun r x => by rw [blk1]; exact hm _ _ _ (by show 6144 ≤ 6144 + (x : ℕ); omega))
    (fun r x => by rw [blk2]; exact hm _ _ _ (by show 6144 ≤ 8192 + (x : ℕ); omega))
    (fun r x => by rw [blk3]; exact hm _ _ _ (by show 6144 ≤ 10240 + (x : ℕ); omega)) r x]
  exact add_eq m c t r x

/-- A grid point's block of the second result. -/
theorem at13 (c : Dev nD) (t : Fin cfg0.N) (r : Fin 256) (x : Fin 2048) :
    (outsAt0 m c t).2 (ix2 r x) = goalNorm m c (ix2 (row t r) x) := by
  unfold outsAt0
  dsimp only
  rw [out13_eq _ _ _ _ _ _ _ _ _ _ _ _ _ _ _ _ _ _ _ _ _ _ _ _ _ _ _ _ _ _ _ _ _ _ _ _ _ _ _ _ _ _ _ _
    (fun r x => by rw [blk1]; exact hm _ _ _ (by show 6144 ≤ 6144 + (x : ℕ); omega))
    (fun r x => by rw [blk2]; exact hm _ _ _ (by show 6144 ≤ 8192 + (x : ℕ); omega))
    (fun r x => by rw [blk3]; exact hm _ _ _ (by show 6144 ≤ 10240 + (x : ℕ); omega)) r x]
  have e : addB (iblk m c 0 t) (iblk m c 1 t) (iblk m c 2 t) (iblk m c 3 t) (iblk m c 4 t) (iblk m c 5 t) (iblk m c 6 t) (iblk m c 7 t)
      (iblk m c 8 t) (iblk m c 9 t) (iblk m c 10 t) r = added m c (row t r) := funext fun z => add_eq m c t r z
  rw [e]
  simp only [blk11]
  rfl

/-- The kernel's first result array, at every index. -/
theorem arr_eq (c : Dev nD) : (dats m 0 c).arrAt 12 cfg0.N = goal m c := by
  refine (dats m 0 c).arrAt_eq_of_covers 12 _ (by decide +kernel) fun t hf y => ?_
  have ht : t.val < 32 := lt_of_lt_of_eq t.isLt N_0
  blk_simp
  rw [after0_12]
  obtain ⟨r, x, rfl⟩ : ∃ (a : Fin 256) (z : Fin 2048), y = (ix2 a z : S256x2048.Idx) := ⟨y 0, y 1, funext fun i => by fin_cases i <;> rfl⟩
  rw [at12 m hm c t r x]
  refine congrArg (goal m c) (funext fun a => Fin.ext ?_)
  fin_cases a
  · show (row t r : ℕ) = _
    blk_simp [idx t, row]
    try simp
    try omega
  · show (x : ℕ) = _
    blk_simp [idx t]
    try simp

/-- The kernel's second result array, at every index. -/
theorem arr_norm_eq (c : Dev nD) : (dats m 0 c).arrAt 13 cfg0.N = goalNorm m c := by
  refine (dats m 0 c).arrAt_eq_of_covers 13 _ (by decide +kernel) fun t hf y => ?_
  have ht : t.val < 32 := lt_of_lt_of_eq t.isLt N_0
  blk_simp
  rw [after0_13]
  obtain ⟨r, x, rfl⟩ : ∃ (a : Fin 256) (z : Fin 2048), y = (ix2 a z : S256x2048.Idx) := ⟨y 0, y 1, funext fun i => by fin_cases i <;> rfl⟩
  rw [at13 m hm c t r x]
  refine congrArg (goalNorm m c) (funext fun a => Fin.ext ?_)
  fin_cases a
  · show (row t r : ℕ) = _
    blk_simp [idx t, row]
    try simp
    try omega
  · show (x : ℕ) = _
    blk_simp [idx t]
    try simp

end Cert.Kernel5Ideal.Sgu

end
-- ==== Proof.SguRef.lean ====
/- The gating reference's two result arrays, read at an index, are the kernel's. -/
module

public import proofs.«01_k».proof.Proof.SguValue
public import proofs.«01_k».proof.Proof.Gen.Reference5Ideal.Run

@[expose] public section

set_option maxRecDepth 65536

noncomputable section

namespace Cert.Reference5Ideal.Sgu

open Cert.Reference5Ideal Cert.Reference5Ideal.Gen Cert.Attn Cert.Sgu Cert.OutProj Idealize.ShloMosaic Idealize.ShloMosaic.Pointwise Idealize.SL.Sem

/-- The gelu of an array. -/
def gel (x : FVec Ideal S8192x2048 .f32) : FVec Ideal S8192x2048 .f32 :=
  mulf x (mulf (broadcastInDim S8192x2048 ![] bcast_S_S8192x2048 (constant S_ .f32 0x3F000000#32))
    (addf (broadcastInDim S8192x2048 ![] bcast_S_S8192x2048 (constant S_ .f32 0x3F800000#32))
      (Host.tanh (mulf (broadcastInDim S8192x2048 ![] bcast_S_S8192x2048 (constant S_ .f32 0x3F4C422A#32))
        (addf x (mulf (broadcastInDim S8192x2048 ![] bcast_S_S8192x2048 (constant S_ .f32 0x3D372713#32)) (mulf (mulf x x) x)))))))

/-- The silu of an array. -/
def sil (z : FVec Ideal S8192x2048 .f32) : FVec Ideal S8192x2048 .f32 :=
  mulf z (Host.divf (broadcastInDim S8192x2048 ![] bcast_S_S8192x2048 (constant S_ .f32 0x3F800000#32))
    (addf (broadcastInDim S8192x2048 ![] bcast_S_S8192x2048 (constant S_ .f32 0x3F800000#32)) (Host.exp (Host.negf z))))

/-- An array minus the means of its rows. -/
def cent (a : FVec Ideal S8192x2048 .f32) : FVec Ideal S8192x2048 .f32 :=
  subf a (broadcastInDim S8192x2048 ![0, 1] bcast_S8192x1_S8192x2048_0_1 (Host.divf (broadcastInDim S8192x1 ![0] bcast_S8192_S8192x1_0 (Host.reduceAdd a (constant S_ .f32 0x00000000#32) reducesTo_S8192x2048_S8192_d1 h_S_)) (broadcastInDim S8192x1 ![] bcast_S_S8192x1 (constant S_ .f32 0x45000000#32))))

/-- A vector given as one row, along every row of an array. -/
def along (w : Vec Ideal S1x2048 .f32) : FVec Ideal S8192x2048 .f32 :=
  broadcastInDim S8192x2048 ![0, 1] bcast_S1x2048_S8192x2048_0_1 (broadcastInDim S1x2048 ![1] bcast_S2048_S1x2048_1
    (shapeCast _ w shapeCasts_S1x2048_S2048))

/-- The norm with a mean, of an array. -/
def lnm (a : FVec Ideal S8192x2048 .f32) (w b : Vec Ideal S1x2048 .f32) : FVec Ideal S8192x2048 .f32 :=
  addf (mulf (mulf (cent a) (broadcastInDim S8192x2048 ![0, 1] bcast_S8192x1_S8192x2048_0_1
    (Host.rsqrt (addf (Host.divf (broadcastInDim S8192x1 ![0] bcast_S8192_S8192x1_0 (Host.reduceAdd (mulf (cent a) (cent a)) (constant S_ .f32 0x00000000#32) reducesTo_S8192x2048_S8192_d1 h_S_)) (broadcastInDim S8192x1 ![] bcast_S_S8192x1 (constant S_ .f32 0x45000000#32)))
      (broadcastInDim S8192x1 ![] bcast_S_S8192x1 (constant S_ .f32 0x358637BD#32))))))
    (along w)) (along b)

/-- The mixing of an array, in chunks and groups. -/
def mixed (v : FVec Ideal S8192x2048 .f32) (ws : Vec Ideal S1x16x128x128 .f32) (bs : Vec Ideal S1x16x128 .f32) : FVec Ideal S4x16x128x16x128 .f32 :=
  addf (transpose S4x16x128x16x128 [1, 2, 4, 0, 3] (Host.dotGeneral (φ₁ := .f32) (φ₂ := .f32) dot_S4x16x128x16x128_S16x128x128_S16x4x16x128x128_2_2_014_1_3_0 none
      (shapeCast _ v shapeCasts_S8192x2048_S4x16x128x16x128)
      (mulf (shapeCast _ ws shapeCasts_S1x16x128x128_S16x128x128) (broadcastInDim S16x128x128 ![0, 1, 2] bcast_S1x128x128_S16x128x128_0_1_2
        (broadcastInDim S1x128x128 ![1, 2] bcast_S128x128_S1x128x128_1_2 (select
          (cmpi .sge (addi (iotaInDim S128x128 32 0) (broadcastInDim S128x128 ![] bcast_S_S128x128 (constantI S_ 32 0#32))) (iotaInDim S128x128 32 1))
          (broadcastInDim S128x128 ![] bcast_S_S128x128 (constant S_ .f32 0x3F800000#32))
          (broadcastInDim S128x128 ![] bcast_S_S128x128 (constant S_ .f32 0x00000000#32)))))))
      transposes_S16x4x16x128x128_S4x16x128x16x128_1_2_4_0_3)
    (broadcastInDim S4x16x128x16x128 ![0, 1, 2, 3, 4] bcast_S1x1x128x16x1_S4x16x128x16x128_0_1_2_3_4
      (broadcastInDim S1x1x128x16x1 ![2, 3, 4] bcast_S128x16x1_S1x1x128x16x1_2_3_4 (broadcastInDim S128x16x1 ![0, 1] bcast_S128x16_S128x16x1_0_1
        (transpose S128x16 [1, 0] (shapeCast _ bs shapeCasts_S1x16x128_S16x128) transposes_S16x128_S128x16_1_0))))

/-- The gated array. -/
def gates (M : Vec Ideal S8192x12288 .f32) (lw lb : Vec Ideal S1x2048 .f32) (ws : Vec Ideal S1x16x128x128 .f32) (bs : Vec Ideal S1x16x128 .f32) :
    FVec Ideal S8192x2048 .f32 :=
  mulf (mulf (gel (extractStridedSlice S8192x2048 ![0, 8192] M slices_S8192x12288_S8192x2048_0_8192))
    (shapeCast _ (mixed (lnm (gel (extractStridedSlice S8192x2048 ![0, 10240] M slices_S8192x12288_S8192x2048_0_10240)) lw lb) ws bs)
      shapeCasts_S4x16x128x16x128_S8192x2048))
    (sil (extractStridedSlice S8192x2048 ![0, 6144] M slices_S8192x12288_S8192x2048_0_6144))

/-- The residual stream after the projection. -/
def added (A : Vec Ideal S8192x2048 .f32) (G : FVec Ideal S8192x2048 .f32) (w : Vec Ideal S1x4096x2048 .f32) (h : Vec Ideal S8192x2048 .f32) :
    FVec Ideal S8192x2048 .f32 :=
  addf h (Host.dotGeneral (φ₁ := .f32) (φ₂ := .f32) dot_S8192x4096_S4096x2048_S8192x2048_1_0_0_1_n_n none
    (concatenate S8192x4096 1 [⟨S8192x2048, A⟩, ⟨S8192x2048, G⟩] concatenates_S8192x2048_S8192x2048_S8192x4096_d1)
    (shapeCast _ w shapeCasts_S1x4096x2048_S4096x2048))

/-- Its norm, by the second row of the norms' weights. -/
def result (a : FVec Ideal S8192x2048 .f32) (g : Vec Ideal S2x2048 .f32) : FVec Ideal S8192x2048 .bf16 :=
  truncf .bf16 (mulf (mulf a (broadcastInDim S8192x2048 ![0, 1] bcast_S8192x1_S8192x2048_0_1 (Host.rsqrt (addf (Host.divf (broadcastInDim S8192x1 ![0] bcast_S8192_S8192x1_0 (Host.reduceAdd (mulf a a) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (along (extractStridedSlice S1x2048 ![1, 0] g slices_S2x2048_S1x2048_1_0))) bitsLt_bf16_f32

/-- The gelu, at an index. -/
theorem gel_eq (x : FVec Ideal S8192x2048 .f32) (r : Fin 8192) (z : Fin 2048) : gel x (ix2 r z) = gelu (x (ix2 r z)) := by
  pointwise [gel, gelu]

/-- The silu, at an index. -/
theorem sil_eq (x : FVec Ideal S8192x2048 .f32) (r : Fin 8192) (z : Fin 2048) : sil x (ix2 r z) = silu (x (ix2 r z)) := by
  pointwise [sil, silu]

/-- The norm with a mean, at an index. -/
theorem lnm_eq (a : FVec Ideal S8192x2048 .f32) (w b : Vec Ideal S1x2048 .f32) (r : Fin 8192) (z : Fin 2048) :
    lnm a w b (ix2 r z) = lnorm (fun k => a (ix2 r k)) (fun k => w (ix2 0 k)) (fun k => b (ix2 0 k)) z := by
  pointwise [lnm, cent, along, lnorm, mean]

/-- The norm, at an index. -/
theorem result_eq (a : FVec Ideal S8192x2048 .f32) (g : Vec Ideal S2x2048 .f32) (r : Fin 8192) (x : Fin 2048) :
    result a g (ix2 r x) = normed (fun z => a (ix2 r z)) (fun z => g (ix2 1 z)) x := by
  pointwise [result, along, normed]

/-- The mixing, at a batch, a chunk, a position, a group and a column. -/
theorem mixed_eq (v : FVec Ideal S8192x2048 .f32) (ws : Vec Ideal S1x16x128x128 .f32) (bs : Vec Ideal S1x16x128 .f32)
    (b : Fin 4) (n : Fin 16) (t : Fin 128) (g : Fin 16) (q : Fin 128) :
    mixed v ws bs (ix5 b n t g q)
      = mix (fun s => v (ix2 ⟨128 * (16 * b + n) + s, by omega⟩ ⟨128 * g + q, by omega⟩)) (fun s => ws (ix4 0 g t s)) (bs (ix3 0 g t)) t := by
  pointwise [mixed, mix]
  refine congrArg (· + _) (Finset.sum_congr rfl fun s _ => ?_)
  rw [show IntOp.addi (BitVec.ofNat 32 t) 0#32 = BitVec.ofNat 32 t from BitVec.add_zero _]
  refine (select_le _ _ (by omega) (by omega) _ _).trans ?_
  rw [mul_comm, show (⟨b * 2048 + n * 128 + s, by omega⟩ : Fin 8192) = ⟨128 * (16 * b + n) + s, by omega⟩ from Fin.ext (by
    show (b : ℕ) * 2048 + n * 128 + s = 128 * (16 * b + n) + s; omega),
    show (⟨g * 128 + q, by omega⟩ : Fin 2048) = ⟨128 * g + q, by omega⟩ from Fin.ext (by show (g : ℕ) * 128 + q = 128 * g + q; omega)]
  split <;> simp

/-- The chunks and groups joined back into rows and columns. -/
theorem cast_eq (y : FVec Ideal S4x16x128x16x128 .f32) (r : Fin 8192) (x : Fin 2048) :
    shapeCast S8192x2048 y shapeCasts_S4x16x128x16x128_S8192x2048 (ix2 r x)
      = y (ix5 ⟨r / 2048, by omega⟩ ⟨r / 128 % 16, by omega⟩ ⟨r % 128, by omega⟩ ⟨x / 128, by omega⟩ ⟨x % 128, by omega⟩) := by
  pointwise

/-- The residual stream after the projection, at an index. -/
theorem added_eq (A : Vec Ideal S8192x2048 .f32) (G : FVec Ideal S8192x2048 .f32) (w : Vec Ideal S1x4096x2048 .f32) (h : Vec Ideal S8192x2048 .f32)
    (r : Fin 8192) (x : Fin 2048) : added A G w h (ix2 r x)
      = h (ix2 r x) + (∑ k : Fin 2048, A (ix2 r k) * w (ix3 0 ⟨k, by omega⟩ x) + ∑ k : Fin 2048, G (ix2 r k) * w (ix3 0 ⟨2048 + k, by omega⟩ x)) := by
  pointwise [added]

/-- The columns under the gelu. -/
theorem slice_u (M : Vec Ideal S8192x12288 .f32) (r : Fin 8192) (z : Fin 2048) :
    extractStridedSlice S8192x2048 ![0, 8192] M slices_S8192x12288_S8192x2048_0_8192 (ix2 r z) = M (ix2 r ⟨8192 + z, by omega⟩) := by
  pointwise

/-- The columns that are mixed. -/
theorem slice_v (M : Vec Ideal S8192x12288 .f32) (r : Fin 8192) (z : Fin 2048) :
    extractStridedSlice S8192x2048 ![0, 10240] M slices_S8192x12288_S8192x2048_0_10240 (ix2 r z) = M (ix2 r ⟨10240 + z, by omega⟩) := by
  pointwise

/-- The columns of the gate. -/
theorem slice_z (M : Vec Ideal S8192x12288 .f32) (r : Fin 8192) (z : Fin 2048) :
    extractStridedSlice S8192x2048 ![0, 6144] M slices_S8192x12288_S8192x2048_0_6144 (ix2 r z) = M (ix2 r ⟨6144 + z, by omega⟩) := by
  pointwise

/-- The normed gelus, at an index. -/
theorem lnv_eq (M : Vec Ideal S8192x12288 .f32) (lw lb : Vec Ideal S1x2048 .f32) (r : Fin 8192) (z : Fin 2048) :
    lnm (gel (extractStridedSlice S8192x2048 ![0, 10240] M slices_S8192x12288_S8192x2048_0_10240)) lw lb (ix2 r z)
      = lnorm (fun k => gelu (M (ix2 r ⟨10240 + k, by omega⟩))) (fun k => lw (ix2 0 k)) (fun k => lb (ix2 0 k)) z :=
  (lnm_eq _ _ _ r z).trans (congrArg (fun f => lnorm f (fun k => lw (ix2 0 k)) (fun k => lb (ix2 0 k)) z)
    (funext fun k => (gel_eq _ r k).trans (congrArg gelu (slice_v M r k))))

/-- A product of three arrays, at an index. -/
theorem mul3 (a b c : FVec Ideal S8192x2048 .f32) (y : S8192x2048.Idx) : mulf (mulf a b) c y = a y * b y * c y := rfl

/-- The gated array, at an index. -/
theorem gates_eq (M : Vec Ideal S8192x12288 .f32) (lw lb : Vec Ideal S1x2048 .f32) (ws : Vec Ideal S1x16x128x128 .f32) (bs : Vec Ideal S1x16x128 .f32)
    (r : Fin 8192) (x : Fin 2048) : gates M lw lb ws bs (ix2 r x) = gateR M lw lb ws bs r x := by
  have ex : (⟨128 * ((x : ℕ) / 128) + (x : ℕ) % 128, by omega⟩ : Fin 2048) = x := Fin.ext (by show 128 * ((x : ℕ) / 128) + (x : ℕ) % 128 = x; omega)
  have er : (⟨128 * ((r : ℕ) / 128) + (r : ℕ) % 128, by omega⟩ : Fin 8192) = r := Fin.ext (by show 128 * ((r : ℕ) / 128) + (r : ℕ) % 128 = r; omega)
  have en : ∀ s : Fin 128, (⟨128 * (16 * ((r : ℕ) / 2048) + (r : ℕ) / 128 % 16) + s, by omega⟩ : Fin 8192) = ⟨128 * ((r : ℕ) / 128) + s, by omega⟩ :=
    fun s => Fin.ext (by show 128 * (16 * ((r : ℕ) / 2048) + (r : ℕ) / 128 % 16) + (s : ℕ) = 128 * ((r : ℕ) / 128) + s; omega)
  have eo : ∀ (o : ℕ) (ho : o + 2048 ≤ 12288), (⟨o + (128 * ((x : ℕ) / 128) + (x : ℕ) % 128), by omega⟩ : Fin 12288) = ⟨o + x, by omega⟩ :=
    fun o ho => Fin.ext (by show o + (128 * ((x : ℕ) / 128) + (x : ℕ) % 128) = o + x; omega)
  refine (mul3 _ _ _ _).trans ?_
  rw [gel_eq, sil_eq, slice_u, slice_z, cast_eq, mixed_eq, gateR, gateAt, gated, er, ex, eo 8192 (by norm_num), eo 6144 (by norm_num)]
  refine congrArg (fun f => gelu (M (ix2 r ⟨8192 + x, by omega⟩)) * mix f _ _ _ * silu (M (ix2 r ⟨6144 + x, by omega⟩))) (funext fun s => ?_)
  exact (lnv_eq M lw lb _ x).trans (by rw [en])

end Cert.Reference5Ideal.Sgu

namespace Cert.Proof

open Cert.Sgu Cert.OutProj Idealize.ShloMosaic Idealize.ShloMosaic.TcCoe Idealize.ShloMosaic.Pointwise Idealize.SL.Sem

variable (m : (ℓ : Loc Cert.Kernel5Ideal.nD Cert.Kernel5Ideal.τ Cert.Kernel5Ideal.sig) → Buf (Elt Ideal) ℓ) (c : Dev Cert.Kernel5Ideal.nD)

/-- The reference's residual stream, of the kernel's arguments. -/
abbrev refAdded5 : FVec Ideal Cert.Reference5Ideal.S8192x2048 .f32 :=
  Cert.Reference5Ideal.Sgu.added (m ((c : Thread Cert.Kernel5Ideal.nD Cert.Kernel5Ideal.τ).loc Cert.Kernel5Ideal.main_arg0))
    (Cert.Reference5Ideal.Sgu.gates (m ((c : Thread Cert.Kernel5Ideal.nD Cert.Kernel5Ideal.τ).loc Cert.Kernel5Ideal.main_arg1))
      (m ((c : Thread Cert.Kernel5Ideal.nD Cert.Kernel5Ideal.τ).loc Cert.Kernel5Ideal.main_arg2))
      (m ((c : Thread Cert.Kernel5Ideal.nD Cert.Kernel5Ideal.τ).loc Cert.Kernel5Ideal.main_arg3))
      (m ((c : Thread Cert.Kernel5Ideal.nD Cert.Kernel5Ideal.τ).loc Cert.Kernel5Ideal.main_arg4))
      (m ((c : Thread Cert.Kernel5Ideal.nD Cert.Kernel5Ideal.τ).loc Cert.Kernel5Ideal.main_arg5)))
    (m ((c : Thread Cert.Kernel5Ideal.nD Cert.Kernel5Ideal.τ).loc Cert.Kernel5Ideal.main_arg6))
    (m ((c : Thread Cert.Kernel5Ideal.nD Cert.Kernel5Ideal.τ).loc Cert.Kernel5Ideal.main_arg7))

/-- The reference's residual stream, at an index. -/
theorem ref_added5 (r : Fin 8192) (x : Fin 2048) : refAdded5 m c (ix2 r x) = Cert.Kernel5Ideal.Sgu.added m c r x := by
  refine (Cert.Reference5Ideal.Sgu.added_eq _ _ _ _ r x).trans ?_
  simp only [Cert.Reference5Ideal.Sgu.gates_eq]
  rfl

/-- The reference's first result array is the array the kernel leaves, of the same arguments. -/
theorem ref_goal5 : refAdded5 m c = Cert.Kernel5Ideal.Sgu.goal m c := by
  funext y
  obtain ⟨r, x, rfl⟩ : ∃ (a : Fin 8192) (z : Fin 2048), y = (ix2 a z : Cert.Kernel5Ideal.S8192x2048.Idx) :=
    ⟨y 0, y 1, funext fun i => by fin_cases i <;> rfl⟩
  exact ref_added5 m c r x

/-- The reference's second result array is the array the kernel leaves, of the same arguments. -/
theorem ref_norm5 : Cert.Reference5Ideal.Sgu.result (refAdded5 m c)
    (m ((c : Thread Cert.Kernel5Ideal.nD Cert.Kernel5Ideal.τ).loc Cert.Kernel5Ideal.main_arg8)) = Cert.Kernel5Ideal.Sgu.goalNorm m c := by
  funext y
  obtain ⟨r, x, rfl⟩ : ∃ (a : Fin 8192) (z : Fin 2048), y = (ix2 a z : Cert.Kernel5Ideal.S8192x2048.Idx) :=
    ⟨y 0, y 1, funext fun i => by fin_cases i <;> rfl⟩
  refine (Cert.Reference5Ideal.Sgu.result_eq _ _ r x).trans ?_
  simp only [ref_added5]
  rfl

end Cert.Proof

end
-- ==== Proof.StepNorm.lean ====
/- The first norm and the even layer's time steps: the kernel's two result arrays and the reference's, read at an index,
   are one number. -/
module

public import proofs.«01_k».proof.Proof.Gen.Kernel6Ideal.Value
public import proofs.«01_k».proof.Proof.Gen.Reference6Ideal.Run
public import proofs.«01_k».proof.Proof.OutProj
public import proofs.«01_k».proof.Proof.Spec

@[expose] public section

set_option maxRecDepth 16384

noncomputable section

namespace Cert.StepNorm

open Idealize.ShloMosaic Idealize.ShloMosaic.Pointwise Cert.OutProj Cert.Attn

/-- `2048` in the extended reals. -/
theorem f32_2048 : Ideal.ofBits .f32 0x45000000#32 = ((2048 : ℝ) : EReal) := by
  simp [Ideal.ofBits, Ideal.ieee, -EReal.coe_mul]
  norm_num

/-- The norm's small summand in the extended reals. -/
theorem f32_eps : Ideal.ofBits .f32 0x358637BD#32 = ((8796093 / 2 ^ 43 : ℝ) : EReal) := by
  simp [Ideal.ofBits, Ideal.ieee, -EReal.coe_mul]
  norm_num

/-- A square is not negative. -/
theorem sq_nonneg (a : EReal) : 0 ≤ a * a := by
  induction a with
  | bot => rw [EReal.bot_mul_bot]; exact le_top
  | top => rw [EReal.top_mul_top]; exact le_top
  | coe a => rw [← EReal.coe_mul]; exact_mod_cast mul_self_nonneg a

/-- A row's norm is real wherever the norm's weight is: an infinite entry makes the reciprocal root zero. -/
theorem normed_real (a g : Fin 2048 → EReal) (x : Fin 2048) (hg : ∃ t : ℝ, g x = (t : EReal)) :
    ∃ t : ℝ, normed a g x = (t : EReal) := by
  obtain ⟨t, ht⟩ := hg
  have h0 : 0 ≤ ∑ k : Fin 2048, a k * a k := Finset.sum_nonneg fun k _ => sq_nonneg (a k)
  have h1 : a x * a x ≤ ∑ k : Fin 2048, a k * a k :=
    Finset.single_le_sum (f := fun k => a k * a k) (fun k _ => sq_nonneg (a k)) (Finset.mem_univ x)
  rw [normed, f32_2048, f32_eps, div_real _ _ (by norm_num), ht]
  generalize (∑ k : Fin 2048, a k * a k) = s at h0 h1 ⊢
  induction s with
  | bot => exact absurd h0 (by simp)
  | top =>
    rw [EReal.top_mul_coe_of_pos (by norm_num), EReal.top_add_coe, Ideal.rsqrt_top, mul_zero, zero_mul]
    exact ⟨0, rfl⟩
  | coe s =>
    have hs : (0 : ℝ) ≤ s := by exact_mod_cast h0
    have hp : 0 < s * 2048⁻¹ + 8796093 / 2 ^ 43 := by positivity
    rw [← EReal.coe_mul, ← EReal.coe_add, Ideal.rsqrt_coe, if_neg (not_lt.mpr hp.le), if_neg hp.ne']
    generalize ((√(s * 2048⁻¹ + 8796093 / 2 ^ 43))⁻¹ : ℝ) = q
    generalize a x = b at h1 ⊢
    induction b with
    | bot => rw [EReal.bot_mul_bot] at h1; exact absurd (top_le_iff.mp h1) (EReal.coe_ne_top s)
    | top => rw [EReal.top_mul_top] at h1; exact absurd (top_le_iff.mp h1) (EReal.coe_ne_top s)
    | coe b => exact ⟨b * q * t, by rw [EReal.coe_mul, EReal.coe_mul]⟩

/-- The product in three parts, of the values and of the two remainders, is the product of the values: over the reals the
    remainders are zero. -/
theorem parts (y w : Fin 2048 → EReal) (hy : ∀ k, ∃ t : ℝ, y k = (t : EReal)) (hw : ∀ k, ∃ t : ℝ, w k = (t : EReal)) :
    ∑ k : Fin 2048, y k * w k + (∑ k : Fin 2048, (y k - y k) * w k + ∑ k : Fin 2048, y k * (w k - w k))
      = ∑ k : Fin 2048, y k * w k := by
  have e1 : ∀ k, (y k - y k) * w k = 0 := fun k => by
    obtain ⟨t, ht⟩ := hy k
    rw [ht, ← EReal.coe_sub, sub_self, EReal.coe_zero, zero_mul]
  have e2 : ∀ k, y k * (w k - w k) = 0 := fun k => by
    obtain ⟨t, ht⟩ := hw k
    rw [ht, ← EReal.coe_sub, sub_self, EReal.coe_zero, mul_zero]
  simp only [e1, e2, Finset.sum_const_zero, add_zero]

end Cert.StepNorm

namespace Cert.Kernel6Ideal.StepNorm

open Cert.Kernel6Ideal Cert.Kernel6Ideal.Gen Cert.OutProj Cert.StepNorm Idealize.ShloMosaic Idealize.ShloMosaic.TcCoe Idealize.ShloMosaic.Pointwise Idealize.SL.Sem
open Idealize.ShloMosaic.Pipeline (Dat)

variable (m : (ℓ : Loc nD τ sig) → Buf (Elt Ideal) ℓ)

/-- The zero offset of a matrix. -/
theorem hz2 : (![0, 0] : Fin 2 → Nat) = fun _ => 0 := funext fun a => by fin_cases a <;> rfl

/-- The zero offset of a stack of matrices. -/
theorem hz3 : (![0, 0, 0] : Fin 3 → Nat) = fun _ => 0 := funext fun a => by fin_cases a <;> rfl

/-- The normed rows a grid point stores. -/
theorem pay2_eq (v0 : Vec Ideal S512x2048 .f32) (v11 : Vec Ideal S1x2048 .f32) (r : Fin 512) (x : Fin 2048) :
    k0_pay2 v0 v11 (ix2 r x) = normed (fun z => v0 (ix2 r z)) (fun z => v11 (ix2 0 z)) x := by
  pointwise [k0_pay2, k0_pay1, normed]

/-- The weight of a time step's column; beyond the thirty-two columns, zero. -/
def stepw (w : Fin 128 → Fin 2048 → EReal) (x : Fin 128) (k : Fin 2048) : EReal :=
  if (x : ℕ) < 32 then w x k else 0

/-- The time steps a grid point stores: three products, of the values and of the remainders of the casts. -/
theorem pay3_eq (v0 : Vec Ideal S512x2048 .f32) (v11 : Vec Ideal S1x2048 .f32) (v23 : Vec Ideal S1x128x2048 .f32) (r : Fin 512) (x : Fin 128) :
    k0_pay3 v0 v11 v23 (ix2 r x)
      = (fun (y w : Fin 2048 → EReal) => ∑ k : Fin 2048, y k * w k + (∑ k : Fin 2048, (y k - y k) * w k + ∑ k : Fin 2048, y k * (w k - w k)))
        (normed (fun z => v0 (ix2 r z)) (fun z => v11 (ix2 0 z))) (stepw (fun x k => v23 (ix3 0 x k)) x) := by
  pointwise [k0_pay3, k0_pay2, k0_pay1, normed, stepw]
  rw [WordCmp.cmpi_slt_ofNat (by omega) (by norm_num)]
  by_cases hc : (x : ℕ) < 32 <;> simp [hc, Scalar.select]

/-- The first result: the normed rows. -/
def goal (c : Dev nD) (y : S8192x2048.Idx) : EReal :=
  normed (fun z => m ((c : Thread nD τ).loc main_arg0) (ix2 (y 0) z)) (fun z => m ((c : Thread nD τ).loc main_arg1) (ix2 0 z)) (y 1)

/-- The weights of the projection, as launched. -/
abbrev weights (c : Dev nD) : S1x2048x12320.Idx → EReal := m ((c : Thread nD τ).loc main_arg2)

/-- The second result: the normed rows times the time steps' columns, padded with zero columns. -/
def goalStep (c : Dev nD) (y : S8192x128.Idx) : EReal :=
  ∑ k : Fin 2048, normed (fun z => m ((c : Thread nD τ).loc main_arg0) (ix2 (y 0) z)) (fun z => m ((c : Thread nD τ).loc main_arg1) (ix2 0 z)) k
    * stepw (fun x k => weights m c (ix3 0 k ⟨6144 + x, by omega⟩)) (y 1) k

section Cases

variable (c : Dev nD) (i : grid0.Coords) (a1 : Memref sig .tc .vmem S512x2048 .f32) (h1 : a1.IsWhole) (a2 : Memref sig .tc .vmem S1x2048 .f32) (h2 : a2.IsWhole)
  (a3 : Memref sig .tc .vmem S1x128x2048 .f32) (h3 : a3.IsWhole) (a4 : Memref sig .tc .vmem S512x2048 .bf16) (h4 : a4.IsWhole)
  (a5 : Memref sig .tc .vmem S512x128 .f32) (h5 : a5.IsWhole)
  (x0 : Vec Ideal S512x2048 .f32) (x1 : Vec Ideal S1x2048 .f32) (x2 : Vec Ideal S1x128x2048 .f32)

/-- A grid point's block of the normed rows. -/
theorem outNorm (r : Fin 512) (x : Fin 2048) :
    out0_A_3 c i a1 h1 a2 h2 a3 h3 a4 h4 a5 h5 x0 x1 x2 (ix2 r x) = normed (fun z => x0 (ix2 r z)) (fun z => x1 (ix2 0 z)) x := by
  unfold out0_A_3
  rw [View.read_writes_junk_eq_canon]
  unfold kernelRun0_A
  dsimp only
  sl_unfold_words
  rw [View.canon_unit_zero (S := S512x2048) hz2]
  simp only [View.readAt_eq_ld, h1.read_unread, h2.read_unread, View.ld_unit_zero (S := S512x2048) hz2, View.ld_unit_zero (S := S1x2048) hz2]
  exact pay2_eq _ _ r x

/-- A grid point's block of the time steps. -/
theorem outStep (r : Fin 512) (x : Fin 128) (hy : ∀ k, ∃ t : ℝ, x1 (ix2 0 k) = (t : EReal))
    (hw : ∀ k (z : Fin 128), (z : ℕ) < 32 → ∃ t : ℝ, x2 (ix3 0 z k) = (t : EReal)) :
    out0_A_4 c i a1 h1 a2 h2 a3 h3 a4 h4 a5 h5 x0 x1 x2 (ix2 r x)
      = ∑ k : Fin 2048, normed (fun z => x0 (ix2 r z)) (fun z => x1 (ix2 0 z)) k * stepw (fun x k => x2 (ix3 0 x k)) x k := by
  unfold out0_A_4
  rw [View.read_writes_junk_eq_canon]
  unfold kernelRun0_A
  dsimp only
  sl_unfold_words
  rw [View.canon_unit_zero (S := S512x128) hz2]
  simp only [View.readAt_eq_ld, h1.read_unread, h2.read_unread, h3.read_unread, View.ld_unit_zero (S := S512x2048) hz2,
    View.ld_unit_zero (S := S1x2048) hz2, View.ld_unit_zero (S := S1x128x2048) hz3]
  rw [pay3_eq]
  refine parts _ _ (fun k => normed_real _ _ k (hy k)) fun k => ?_
  unfold stepw
  split
  · next hx => exact hw k x hx
  · exact ⟨0, rfl⟩

end Cases

/-- The grid: sixteen blocks of rows; each window's block at a point. -/
theorem idx : ∀ t : Fin cfg0.N, win0_0.index t = ![t.val, 0] ∧ win0_1.index t = ![0, 0] ∧ win0_2.index t = ![0, 48, 0]
    ∧ win0_3.index t = ![t.val, 0] ∧ win0_4.index t = ![t.val, 0] :=
  (by decide +kernel : ∀ t : Fin grid0.N, _)

/-- A row of a grid point's block, as a row of the array. -/
def row (t : Fin cfg0.N) (r : Fin 512) : Fin 8192 :=
  ⟨512 * t.val + r, by have : t.val < 16 := lt_of_lt_of_eq t.isLt N_0; omega⟩

/-- The rows' window. -/
theorem blk0 (c : Dev nD) (t : Fin cfg0.N) (r : Fin 512) (k : Fin 2048) :
    (iblk m c 0 t : Vec Ideal S512x2048 .f32) (ix2 r k) = m ((c : Thread nD τ).loc main_arg0) (ix2 (row t r) k) := by
  blk_ext! [iblk, V, idx t, row]

/-- The norm's weights, whole at every point. -/
theorem blk1 (c : Dev nD) (t : Fin cfg0.N) (k : Fin 2048) :
    (iblk m c 1 t : Vec Ideal S1x2048 .f32) (ix2 0 k) = m ((c : Thread nD τ).loc main_arg1) (ix2 0 k) := by
  blk_ext! [iblk, V, idx t]

/-- The time steps' columns of the weights, whole at every point. -/
theorem blk2 (c : Dev nD) (t : Fin cfg0.N) (x : Fin 128) (k : Fin 2048) :
    (X0_2 m c t : Vec Ideal S1x128x2048 .f32) (ix3 0 x k) = weights m c (ix3 0 k ⟨6144 + x, by omega⟩) := by
  unfold X0_2 Pipeline.Window.fill
  rw [dif_pos (moved0_2 t _)]
  blk_ext! [iblk, V, idx t]

/-- What a grid point leaves in the normed rows' block. -/
theorem norm_at (c : Dev nD) (t : Fin cfg0.N) (r : Fin 512) (x : Fin 2048) :
    (outsAt0 m c t).1 (ix2 r x) = goal m c (ix2 (row t r) x) := by
  unfold outsAt0
  dsimp only
  rw [outNorm]
  simp only [blk0, blk1]
  rfl

/-- What a grid point leaves in the time steps' block. -/
theorem step_at (c : Dev nD) (hy : ∀ k, ∃ t : ℝ, (m ((c : Thread nD τ).loc main_arg1) : S2x2048.Idx → EReal) (ix2 0 k) = (t : EReal))
    (hw : ∀ k (z : Fin 12320), 6144 ≤ (z : ℕ) → (z : ℕ) < 6176 → ∃ t : ℝ, weights m c (ix3 0 k z) = (t : EReal))
    (t : Fin cfg0.N) (r : Fin 512) (x : Fin 128) :
    (outsAt0 m c t).2 (ix2 r x) = goalStep m c (ix2 (row t r) x) := by
  unfold outsAt0
  dsimp only
  rw [outStep]
  · simp only [blk0, blk1, blk2]
    rfl
  · intro k
    rw [blk1]
    exact hy k
  · intro k z hz
    rw [blk2]
    exact hw k _ (by show 6144 ≤ 6144 + (z : ℕ); omega) (by show 6144 + (z : ℕ) < 6176; omega)

/-- The kernel's first result array, at every index. -/
theorem arr_eq (c : Dev nD) : (dats m 0 c).arrAt 3 cfg0.N = goal m c := by
  refine (dats m 0 c).arrAt_eq_of_covers 3 _ (by decide +kernel) fun t hf y => ?_
  have ht : t.val < 16 := lt_of_lt_of_eq t.isLt N_0
  blk_simp
  rw [after0_3]
  obtain ⟨r, x, rfl⟩ : ∃ (a : Fin 512) (z : Fin 2048), y = (ix2 a z : S512x2048.Idx) :=
    ⟨y 0, y 1, funext fun i => by fin_cases i <;> rfl⟩
  rw [norm_at]
  refine congrArg (goal m c) (funext fun a => Fin.ext ?_)
  fin_cases a
  · show (row t r : ℕ) = _
    blk_simp [idx t, row]
    try simp
    try omega
  · show (x : ℕ) = _
    blk_simp [idx t]
    try simp

/-- The kernel's second result array, at every index. -/
theorem arr_step_eq (c : Dev nD) (hy : ∀ k, ∃ t : ℝ, (m ((c : Thread nD τ).loc main_arg1) : S2x2048.Idx → EReal) (ix2 0 k) = (t : EReal))
    (hw : ∀ k (z : Fin 12320), 6144 ≤ (z : ℕ) → (z : ℕ) < 6176 → ∃ t : ℝ, weights m c (ix3 0 k z) = (t : EReal)) :
    (dats m 0 c).arrAt 4 cfg0.N = goalStep m c := by
  refine (dats m 0 c).arrAt_eq_of_covers 4 _ (by decide +kernel) fun t hf y => ?_
  have ht : t.val < 16 := lt_of_lt_of_eq t.isLt N_0
  blk_simp
  rw [after0_4]
  obtain ⟨r, x, rfl⟩ : ∃ (a : Fin 512) (z : Fin 128), y = (ix2 a z : S512x128.Idx) :=
    ⟨y 0, y 1, funext fun i => by fin_cases i <;> rfl⟩
  rw [step_at m c hy hw]
  refine congrArg (goalStep m c) (funext fun a => Fin.ext ?_)
  fin_cases a
  · show (row t r : ℕ) = _
    blk_simp [idx t, row]
    try simp
    try omega
  · show (x : ℕ) = _
    blk_simp [idx t]
    try simp

end Cert.Kernel6Ideal.StepNorm

namespace Cert.Reference6Ideal.StepNorm

open Cert.Reference6Ideal Cert.Reference6Ideal.Gen Cert.OutProj Cert.StepNorm Idealize.ShloMosaic Idealize.ShloMosaic.Pointwise Idealize.SL.Sem

/-- The normed rows. -/
def rows (h : Vec Ideal S8192x2048 .f32) (g : Vec Ideal S2x2048 .f32) : FVec Ideal S8192x2048 .f32 :=
  mulf (mulf h (broadcastInDim S8192x2048 ![0, 1] bcast_S8192x1_S8192x2048_0_1 (Host.rsqrt (addf (Host.divf (broadcastInDim S8192x1 ![0] bcast_S8192_S8192x1_0
    (Host.reduceAdd (mulf h h) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast _ (extractStridedSlice S1x2048 ![0, 0] g slices_S2x2048_S1x2048_0_0) shapeCasts_S1x2048_S2048)))

/-- The normed rows in the type of the call's result. -/
def result (h : Vec Ideal S8192x2048 .f32) (g : Vec Ideal S2x2048 .f32) : FVec Ideal S8192x2048 .bf16 :=
  truncf .bf16 (rows h g) bitsLt_bf16_f32

/-- The time steps, padded with zero columns. -/
def steps (a : FVec Ideal S8192x2048 .f32) (w : Vec Ideal S1x2048x12320 .f32) : FVec Ideal S8192x128 .f32 :=
  pad S8192x128 ![0, 0] ![0, 96] ![0, 0] (Host.dotGeneral (φ₁ := .f32) (φ₂ := .f32) dot_S8192x2048_S2048x32_S8192x32_1_0_0_1_n_n none a
    (extractStridedSlice S2048x32 ![0, 6144] (shapeCast _ w shapeCasts_S1x2048x12320_S2048x12320) slices_S2048x12320_S2048x32_0_6144))
    (sitofp .f32 (constantI S_ 32 0#32)) pads_S8192x32_S8192x128_000_0960

/-- The normed rows, at an index. -/
theorem rows_eq (h : Vec Ideal S8192x2048 .f32) (g : Vec Ideal S2x2048 .f32) (r : Fin 8192) (x : Fin 2048) :
    rows h g (ix2 r x) = normed (fun z => h (ix2 r z)) (fun z => g (ix2 0 z)) x := by
  pointwise [rows, normed]

/-- The same in the type of the call's result. -/
theorem result_eq (h : Vec Ideal S8192x2048 .f32) (g : Vec Ideal S2x2048 .f32) (r : Fin 8192) (x : Fin 2048) :
    result h g (ix2 r x) = normed (fun z => h (ix2 r z)) (fun z => g (ix2 0 z)) x :=
  rows_eq h g r x

/-- The time steps, at an index. -/
theorem steps_eq (a : FVec Ideal S8192x2048 .f32) (w : Vec Ideal S1x2048x12320 .f32) (r : Fin 8192) (x : Fin 128) :
    steps a w (ix2 r x) = ∑ k : Fin 2048, a (ix2 r k)
      * Cert.Kernel6Ideal.StepNorm.stepw (fun x k => (w : S1x2048x12320.Idx → EReal) (ix3 0 k ⟨6144 + x, by omega⟩)) x k := by
  pointwise [steps, Cert.Kernel6Ideal.StepNorm.stepw]
  by_cases hx : (x : ℕ) < 32
  · simp [hx]
  · simp only [hx, if_false, dif_neg, not_false_eq_true, mul_zero, Finset.sum_const_zero]
    show ((((0#32 : BitVec 32).toInt : ℝ)) : EReal) = 0
    simp

end Cert.Reference6Ideal.StepNorm

end
-- ==== Proof.ClaimsGate.lean ====
/- The claims of the gating kernel and of the first norm: each kernel runs, its rewritten constants stand for what they
   name, and on the extended reals it agrees with its reference where the precondition holds. -/
module

public import proofs.«01_k».proof.Defs
public import proofs.«01_k».proof.Proof.Claims
public import proofs.«01_k».proof.Proof.SguRef
public import proofs.«01_k».proof.Proof.StepNorm
public import proofs.«01_k».proof.Proof.Gen.Pre_gates
public import proofs.«01_k».proof.Proof.Gen.Pre_finite_weights
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame

@[expose] public section

set_option maxRecDepth 65536

noncomputable section

namespace Cert.Proof

open Idealize.ShloMosaic Idealize.ShloMosaic.TcCoe Idealize.ShloMosaic.Pointwise Idealize.SL.Sem

/-- The infinity the preconditions compare with. -/
theorem f32_top : Ideal.ofBits .f32 2139095040#32 = ⊤ := by simp [Ideal.ofBits, Ideal.ieee]

/-- The infinity below the gate's entries. -/
theorem f32_bot : Ideal.ofBits .f32 4286578688#32 = ⊥ := by simp [Ideal.ofBits, Ideal.ieee]

/-- A number whose absolute value lies under infinity is real. -/
theorem real_of_abs (x : EReal) (h : max x (-x) < ⊤) : ∃ t : ℝ, x = t := by
  induction x with
  | bot => simp at h
  | top => simp at h
  | coe t => exact ⟨t, rfl⟩

/-- A decided bit is one when the proposition holds. -/
theorem one_bit (p : Prop) [Decidable p] : BitVec.ofBool (decide p) = 1#1 ↔ p := by
  by_cases hp : p <;> simp [hp]

/-- One of three decided bits holds when their disjunction is one. -/
theorem one_or3 (p q r : Prop) [Decidable p] [Decidable q] [Decidable r] :
    IntOp.ori (IntOp.ori (BitVec.ofBool (decide p)) (BitVec.ofBool (decide q))) (BitVec.ofBool (decide r)) = 1#1 ↔ p ∨ q ∨ r := by
  by_cases hp : p <;> by_cases hq : q <;> by_cases hr : r <;> simp [hp, hq, hr, IntOp.ori]

/-! ## The spatial gating with its output projection -/

/-- The precondition, read at an index: the gating unit's columns lie above minus infinity. -/
theorem gates_of (A : FVec Ideal Cert.Pre_gates.S8192x2048 .f32) (M : FVec Ideal Cert.Pre_gates.S8192x12288 .f32)
    (lw lb : FVec Ideal Cert.Pre_gates.S1x2048 .f32) (ws : FVec Ideal Cert.Pre_gates.S1x16x128x128 .f32) (bs : FVec Ideal Cert.Pre_gates.S1x16x128 .f32)
    (w : FVec Ideal Cert.Pre_gates.S1x4096x2048 .f32) (h7 : FVec Ideal Cert.Pre_gates.S8192x2048 .f32) (g : FVec Ideal Cert.Pre_gates.S2x2048 .f32)
    (h : Cert.Pre_gates.fn (F := Ideal) A M lw lb ws bs w h7 g = fun _ => 1#1) (r : Fin 8192) (x : Fin 12288) (hx : 6144 ≤ (x : ℕ)) :
    M (ix2 r x) ≠ ⊥ := by
  intro hb
  have e := congrFun h (ix2 r x)
  pointwise [Cert.Pre_gates.fn] at e
  rw [WordCmp.cmpi_slt_ofNat (by omega) (by norm_num), f32_bot, hb] at e
  rcases (one_or _ _).mp e with h | h
  · exact lt_irrefl _ h
  · omega

/-- The kernel as printed, on machine words, runs and changes no argument. -/
theorem frame_p5 : Cert.quiescent_Kernel5 := fun m ρ _ => Cert.Kernel5.Gen.frame m ρ

/-- So does the kernel on the extended reals. -/
theorem frame_pi5 : Cert.quiescent_Kernel5Ideal := fun m ρ _ => Cert.Kernel5Ideal.Gen.frame m ρ

/-- The same from the memories the value claim speaks of. -/
theorem frame_pi5_gates : Cert.quiescent_Kernel5Ideal_pre_gates := fun m ρ _ => Cert.Kernel5Ideal.Gen.frame m ρ

/-- The reference runs, changes no argument and has no semaphores. -/
theorem frame_ri5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The same from the memories the value claim speaks of. -/
theorem frame_ri5_gates : Cert.quiescent_Reference5Ideal_pre_gates := fun m ρ _ => frame_ri5 m ρ trivial

/-- The named constant has the value the table gives it. -/
theorem preserves5 : Cert.preserves_Kernel5_Kernel5Ideal := IdealRules.named_const.statement _ _ _ _ _ rfl

/-- On the extended reals the kernel and the reference leave one residual stream and one norm of it. -/
theorem algebraic5 : Cert.algebraic_Kernel5Ideal_Reference5Ideal_pre_gates := by
  intro m ρ m' ρ' hpre hagree
  have hm : ∀ (c : Dev Cert.Kernel5Ideal.nD) (r : Fin 8192) (x : Fin 12288), 6144 ≤ (x : ℕ) → Cert.Kernel5Ideal.Sgu.proj m c (ix2 r x) ≠ ⊥ :=
    fun c r x hx => gates_of _ _ _ _ _ _ _ _ _ (hpre c) r x hx
  refine ⟨fun c => Cert.Kernel5Ideal.Sgu.goal m c, fun c => Cert.Kernel5Ideal.Sgu.goalNorm m c,
    (θ_run Cert.Kernel5Ideal.defs _ _).mono (fun _ h c => ⟨(h c).1.trans (Cert.Kernel5Ideal.Sgu.arr_eq m hm c),
      (h c).2.1.trans (Cert.Kernel5Ideal.Sgu.arr_norm_eq m hm c), (h c).2.2⟩) (Cert.Kernel5Ideal.Value.run_blocks m ρ),
    (θ_run Cert.Reference5Ideal.defs _ _).mono (fun _ h c => ⟨(h c).1.trans ?_, (h c).2.1.trans ?_, (h c).2.2⟩)
      (Cert.Reference5Ideal.Value.run (F := Ideal) m' ρ')⟩
  · obtain ⟨e0, e1, e2, e3, e4, e5, e6, e7, -⟩ := hagree c
    unfold Cert.Reference5Ideal.Value.res_main_v75
    rw [e0, e1, e2, e3, e4, e5, e6, e7]
    exact ref_goal5 m c
  · obtain ⟨e0, e1, e2, e3, e4, e5, e6, e7, e8⟩ := hagree c
    unfold Cert.Reference5Ideal.Value.res_main_v91
    rw [e0, e1, e2, e3, e4, e5, e6, e7, e8]
    exact ref_norm5 m c

/-! ## The first norm with the time steps' columns -/

/-- The precondition, read at an index: the first norm's weights and the time steps' weights are real. -/
theorem weights_of (x : FVec Ideal Cert.Pre_finite_weights.S8192x2048 .f32) (g : FVec Ideal Cert.Pre_finite_weights.S2x2048 .f32)
    (w : FVec Ideal Cert.Pre_finite_weights.S1x2048x12320 .f32)
    (h : Cert.Pre_finite_weights.fn (F := Ideal) x g w = fun _ => 1#1) (k : Fin 2048) (z : Fin 12320) :
    (∃ t : ℝ, g (ix2 0 k) = (t : EReal)) ∧ (6144 ≤ (z : ℕ) → (z : ℕ) < 6176 → ∃ t : ℝ, w (ix3 0 k z) = (t : EReal)) := by
  have e := congrFun h (ix3 0 k z)
  pointwise [Cert.Pre_finite_weights.fn] at e
  rw [WordCmp.cmpi_slt_ofNat (by omega) (by norm_num), WordCmp.cmpi_sge_ofNat (by omega) (by norm_num), f32_top] at e
  obtain ⟨e1, e2⟩ := (one_and _ _).mp e
  refine ⟨real_of_abs _ ((one_bit _).mp e1), fun h1 h2 => real_of_abs _ ?_⟩
  rcases (one_or3 _ _ _).mp e2 with h | h | h
  · exact h
  · omega
  · omega

/-- The kernel as printed, on machine words, runs and changes no argument. -/
theorem frame_p6 : Cert.quiescent_Kernel6 := fun m ρ _ => Cert.Kernel6.Gen.frame m ρ

/-- So does the kernel on the extended reals. -/
theorem frame_pi6 : Cert.quiescent_Kernel6Ideal := fun m ρ _ => Cert.Kernel6Ideal.Gen.frame m ρ

/-- The same from the memories the value claim speaks of. -/
theorem frame_pi6_weights : Cert.quiescent_Kernel6Ideal_pre_finite_weights := fun m ρ _ => Cert.Kernel6Ideal.Gen.frame m ρ

/-- The reference runs, changes no argument and has no semaphores. -/
theorem frame_ri6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The same from the memories the value claim speaks of. -/
theorem frame_ri6_weights : Cert.quiescent_Reference6Ideal_pre_finite_weights := fun m ρ _ => frame_ri6 m ρ trivial

/-- No operation is rewritten. -/
theorem preserves6 : Cert.preserves_Kernel6_Kernel6Ideal := trivial

/-- On the extended reals the kernel and the reference leave one norm and one array of time steps. -/
theorem algebraic6 : Cert.algebraic_Kernel6Ideal_Reference6Ideal_pre_finite_weights := by
  intro m ρ m' ρ' hpre hagree
  have hw : ∀ (c : Dev Cert.Kernel6Ideal.nD) (k : Fin 2048) (z : Fin 12320), _ := fun c k z => weights_of _ _ _ (hpre c) k z
  refine ⟨fun c => Cert.Kernel6Ideal.StepNorm.goal m c, fun c => Cert.Kernel6Ideal.StepNorm.goalStep m c,
    (θ_run Cert.Kernel6Ideal.defs _ _).mono (fun _ h c => ⟨(h c).1.trans (Cert.Kernel6Ideal.StepNorm.arr_eq m c),
      (h c).2.1.trans (Cert.Kernel6Ideal.StepNorm.arr_step_eq m c (fun k => (hw c k 0).1) fun k z => (hw c k z).2), (h c).2.2⟩)
      (Cert.Kernel6Ideal.Value.run_blocks m ρ),
    (θ_run Cert.Reference6Ideal.defs _ _).mono (fun _ h c => ⟨(h c).1.trans ?_, (h c).2.1.trans ?_, (h c).2.2⟩)
      (Cert.Reference6Ideal.Value.run (F := Ideal) m' ρ')⟩
  · obtain ⟨e0, e1, -⟩ := hagree c
    rw [e0, e1]
    funext y
    obtain ⟨r, x, rfl⟩ : ∃ (a : Fin 8192) (z : Fin 2048), y = (ix2 a z : Cert.Kernel6Ideal.S8192x2048.Idx) :=
      ⟨y 0, y 1, funext fun i => by fin_cases i <;> rfl⟩
    exact Cert.Reference6Ideal.StepNorm.result_eq (m ((c : Thread Cert.Kernel6Ideal.nD Cert.Kernel6Ideal.τ).loc Cert.Kernel6Ideal.main_arg0))
      (m ((c : Thread Cert.Kernel6Ideal.nD Cert.Kernel6Ideal.τ).loc Cert.Kernel6Ideal.main_arg1)) r x
  · obtain ⟨e0, e1, e2⟩ := hagree c
    rw [e0, e1, e2]
    funext y
    obtain ⟨r, x, rfl⟩ : ∃ (a : Fin 8192) (z : Fin 128), y = (ix2 a z : Cert.Kernel6Ideal.S8192x128.Idx) :=
      ⟨y 0, y 1, funext fun i => by fin_cases i <;> rfl⟩
    refine (Cert.Reference6Ideal.StepNorm.steps_eq (Cert.Reference6Ideal.StepNorm.rows
      (m ((c : Thread Cert.Kernel6Ideal.nD Cert.Kernel6Ideal.τ).loc Cert.Kernel6Ideal.main_arg0))
      (m ((c : Thread Cert.Kernel6Ideal.nD Cert.Kernel6Ideal.τ).loc Cert.Kernel6Ideal.main_arg1)))
      (m ((c : Thread Cert.Kernel6Ideal.nD Cert.Kernel6Ideal.τ).loc Cert.Kernel6Ideal.main_arg2)) r x).trans ?_
    simp only [Cert.Reference6Ideal.StepNorm.rows_eq]
    rfl

end Cert.Proof

end
-- ==== Proof.lean ====
module

public import proofs.«01_k».proof.Defs
public import proofs.«01_k».proof.Proof.Claims
public import proofs.«01_k».proof.Proof.ClaimsProj
public import proofs.«01_k».proof.Proof.ClaimsGate
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Pre_tame
public import proofs.«01_k».proof.Proof.Gen.Pre_gates
public import proofs.«01_k».proof.Proof.Gen.Pre_finite_weights
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_tame.Gen.facts, Cert.Pre_gates.Gen.facts, Cert.Pre_finite_weights.Gen.facts,
  frame_p, frame_pi, frame_pi_tame, frame_ri, frame_ri_tame,
  frame_p2, frame_pi2, frame_ri2, frame_p3, frame_pi3, frame_ri3, frame_p4, frame_pi4, frame_ri4,
  frame_p5, frame_pi5, frame_pi5_gates, frame_ri5, frame_ri5_gates, frame_p6, frame_pi6, frame_pi6_weights, frame_ri6, frame_ri6_weights,
  preserves, algebraic, preserves2, algebraic2, preserves3, algebraic3, preserves4, algebraic4, preserves5, algebraic5,
  preserves6, algebraic6⟩

end Cert.Proof

end
